-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v18)) (v7 : (c : Dev Cert.KernelIdeal.nD) → Buf (Elt Ideal) ((c.tc : Thread Cert.KernelIdeal.nD Cert.KernelIdeal.τ).loc Cert.KernelIdeal.main_v20)) (v8 : (c : Dev Cert.KernelIdeal.nD) → Buf (Elt Ideal) ((c.tc : Thread Cert.KernelIdeal.nD Cert.KernelIdeal.τ).loc Cert.KernelIdeal.main_v21)) (v9 : (c : Dev Cert.KernelIdeal.nD) → Buf (Elt Ideal) ((c.tc : Thread Cert.KernelIdeal.nD Cert.KernelIdeal.τ).loc Cert.KernelIdeal.main_v8_8)) (v10 : (c : Dev Cert.KernelIdeal.nD) → Buf (Elt Ideal) ((c.tc : Thread Cert.KernelIdeal.nD Cert.KernelIdeal.τ).loc Cert.KernelIdeal.main_v8_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_v18) = v6 c
          ∧ r.2.mem ((c.tc : Thread Cert.KernelIdeal.nD Cert.KernelIdeal.τ).loc Cert.KernelIdeal.main_v20) = v7 c
          ∧ r.2.mem ((c.tc : Thread Cert.KernelIdeal.nD Cert.KernelIdeal.τ).loc Cert.KernelIdeal.main_v21) = v8 c
          ∧ r.2.mem ((c.tc : Thread Cert.KernelIdeal.nD Cert.KernelIdeal.τ).loc Cert.KernelIdeal.main_v8_8) = v9 c
          ∧ r.2.mem ((c.tc : Thread Cert.KernelIdeal.nD Cert.KernelIdeal.τ).loc Cert.KernelIdeal.main_v8_9) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v78) = v5 c
          ∧ r.2.mem ((c.tc : Thread Cert.ReferenceIdeal.nD Cert.ReferenceIdeal.τ).loc Cert.ReferenceIdeal.main_v75) = v6 c
          ∧ r.2.mem ((c.tc : Thread Cert.ReferenceIdeal.nD Cert.ReferenceIdeal.τ).loc Cert.ReferenceIdeal.main_v80) = v7 c
          ∧ r.2.mem ((c.tc : Thread Cert.ReferenceIdeal.nD Cert.ReferenceIdeal.τ).loc Cert.ReferenceIdeal.main_v77) = v8 c
          ∧ r.2.mem ((c.tc : Thread Cert.ReferenceIdeal.nD Cert.ReferenceIdeal.τ).loc Cert.ReferenceIdeal.main_v82) = v9 c
          ∧ r.2.mem ((c.tc : Thread Cert.ReferenceIdeal.nD Cert.ReferenceIdeal.τ).loc Cert.ReferenceIdeal.main_v83) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v13)) (v2 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v13) = v1 c
          ∧ r.2.mem ((c.tc : Thread Cert.Kernel2Ideal.nD Cert.Kernel2Ideal.τ).loc Cert.Kernel2Ideal.main_v16) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_v9) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v6)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v6) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v6)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v6) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v9)) (v1 : (c : Dev Cert.Kernel9Ideal.nD) → Buf (Elt Ideal) ((c.tc : Thread Cert.Kernel9Ideal.nD Cert.Kernel9Ideal.τ).loc Cert.Kernel9Ideal.main_v11)) (v2 : (c : Dev Cert.Kernel9Ideal.nD) → Buf (Elt Ideal) ((c.tc : Thread Cert.Kernel9Ideal.nD Cert.Kernel9Ideal.τ).loc Cert.Kernel9Ideal.main_v13)) (v3 : (c : Dev Cert.Kernel9Ideal.nD) → Buf (Elt Ideal) ((c.tc : Thread Cert.Kernel9Ideal.nD Cert.Kernel9Ideal.τ).loc Cert.Kernel9Ideal.main_v16)) (v4 : (c : Dev Cert.Kernel9Ideal.nD) → Buf (Elt Ideal) ((c.tc : Thread Cert.Kernel9Ideal.nD Cert.Kernel9Ideal.τ).loc Cert.Kernel9Ideal.main_v18)) (v5 : (c : Dev Cert.Kernel9Ideal.nD) → Buf (Elt Ideal) ((c.tc : Thread Cert.Kernel9Ideal.nD Cert.Kernel9Ideal.τ).loc Cert.Kernel9Ideal.main_v20)) (v6 : (c : Dev Cert.Kernel9Ideal.nD) → Buf (Elt Ideal) ((c.tc : Thread Cert.Kernel9Ideal.nD Cert.Kernel9Ideal.τ).loc Cert.Kernel9Ideal.main_v23)) (v7 : (c : Dev Cert.Kernel9Ideal.nD) → Buf (Elt Ideal) ((c.tc : Thread Cert.Kernel9Ideal.nD Cert.Kernel9Ideal.τ).loc Cert.Kernel9Ideal.main_v25)) (v8 : (c : Dev Cert.Kernel9Ideal.nD) → Buf (Elt Ideal) ((c.tc : Thread Cert.Kernel9Ideal.nD Cert.Kernel9Ideal.τ).loc Cert.Kernel9Ideal.main_v27)) (v9 : (c : Dev Cert.Kernel9Ideal.nD) → Buf (Elt Ideal) ((c.tc : Thread Cert.Kernel9Ideal.nD Cert.Kernel9Ideal.τ).loc Cert.Kernel9Ideal.main_v30)) (v10 : (c : Dev Cert.Kernel9Ideal.nD) → Buf (Elt Ideal) ((c.tc : Thread Cert.Kernel9Ideal.nD Cert.Kernel9Ideal.τ).loc Cert.Kernel9Ideal.main_v32)) (v11 : (c : Dev Cert.Kernel9Ideal.nD) → Buf (Elt Ideal) ((c.tc : Thread Cert.Kernel9Ideal.nD Cert.Kernel9Ideal.τ).loc Cert.Kernel9Ideal.main_v34)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_v11) = v1 c
          ∧ r.2.mem ((c.tc : Thread Cert.Kernel9Ideal.nD Cert.Kernel9Ideal.τ).loc Cert.Kernel9Ideal.main_v13) = v2 c
          ∧ r.2.mem ((c.tc : Thread Cert.Kernel9Ideal.nD Cert.Kernel9Ideal.τ).loc Cert.Kernel9Ideal.main_v16) = v3 c
          ∧ r.2.mem ((c.tc : Thread Cert.Kernel9Ideal.nD Cert.Kernel9Ideal.τ).loc Cert.Kernel9Ideal.main_v18) = v4 c
          ∧ r.2.mem ((c.tc : Thread Cert.Kernel9Ideal.nD Cert.Kernel9Ideal.τ).loc Cert.Kernel9Ideal.main_v20) = v5 c
          ∧ r.2.mem ((c.tc : Thread Cert.Kernel9Ideal.nD Cert.Kernel9Ideal.τ).loc Cert.Kernel9Ideal.main_v23) = v6 c
          ∧ r.2.mem ((c.tc : Thread Cert.Kernel9Ideal.nD Cert.Kernel9Ideal.τ).loc Cert.Kernel9Ideal.main_v25) = v7 c
          ∧ r.2.mem ((c.tc : Thread Cert.Kernel9Ideal.nD Cert.Kernel9Ideal.τ).loc Cert.Kernel9Ideal.main_v27) = v8 c
          ∧ r.2.mem ((c.tc : Thread Cert.Kernel9Ideal.nD Cert.Kernel9Ideal.τ).loc Cert.Kernel9Ideal.main_v30) = v9 c
          ∧ r.2.mem ((c.tc : Thread Cert.Kernel9Ideal.nD Cert.Kernel9Ideal.τ).loc Cert.Kernel9Ideal.main_v32) = v10 c
          ∧ r.2.mem ((c.tc : Thread Cert.Kernel9Ideal.nD Cert.Kernel9Ideal.τ).loc Cert.Kernel9Ideal.main_v34) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_v65) = v2 c
          ∧ r.2.mem ((c.tc : Thread Cert.Reference9Ideal.nD Cert.Reference9Ideal.τ).loc Cert.Reference9Ideal.main_v35) = v3 c
          ∧ r.2.mem ((c.tc : Thread Cert.Reference9Ideal.nD Cert.Reference9Ideal.τ).loc Cert.Reference9Ideal.main_v63) = v4 c
          ∧ r.2.mem ((c.tc : Thread Cert.Reference9Ideal.nD Cert.Reference9Ideal.τ).loc Cert.Reference9Ideal.main_v91) = v5 c
          ∧ r.2.mem ((c.tc : Thread Cert.Reference9Ideal.nD Cert.Reference9Ideal.τ).loc Cert.Reference9Ideal.main_v16) = v6 c
          ∧ r.2.mem ((c.tc : Thread Cert.Reference9Ideal.nD Cert.Reference9Ideal.τ).loc Cert.Reference9Ideal.main_v44) = v7 c
          ∧ r.2.mem ((c.tc : Thread Cert.Reference9Ideal.nD Cert.Reference9Ideal.τ).loc Cert.Reference9Ideal.main_v72) = v8 c
          ∧ r.2.mem ((c.tc : Thread Cert.Reference9Ideal.nD Cert.Reference9Ideal.τ).loc Cert.Reference9Ideal.main_v22) = v9 c
          ∧ r.2.mem ((c.tc : Thread Cert.Reference9Ideal.nD Cert.Reference9Ideal.τ).loc Cert.Reference9Ideal.main_v50) = v10 c
          ∧ r.2.mem ((c.tc : Thread Cert.Reference9Ideal.nD Cert.Reference9Ideal.τ).loc Cert.Reference9Ideal.main_v78) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8)) (v1 : (c : Dev Cert.Kernel10Ideal.nD) → Buf (Elt Ideal) ((c.tc : Thread Cert.Kernel10Ideal.nD Cert.Kernel10Ideal.τ).loc Cert.Kernel10Ideal.main_v10)) (v2 : (c : Dev Cert.Kernel10Ideal.nD) → Buf (Elt Ideal) ((c.tc : Thread Cert.Kernel10Ideal.nD Cert.Kernel10Ideal.τ).loc Cert.Kernel10Ideal.main_v12)) (v3 : (c : Dev Cert.Kernel10Ideal.nD) → Buf (Elt Ideal) ((c.tc : Thread Cert.Kernel10Ideal.nD Cert.Kernel10Ideal.τ).loc Cert.Kernel10Ideal.main_v14)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_v10) = v1 c
          ∧ r.2.mem ((c.tc : Thread Cert.Kernel10Ideal.nD Cert.Kernel10Ideal.τ).loc Cert.Kernel10Ideal.main_v12) = v2 c
          ∧ r.2.mem ((c.tc : Thread Cert.Kernel10Ideal.nD Cert.Kernel10Ideal.τ).loc Cert.Kernel10Ideal.main_v14) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_v13) = v2 c
          ∧ r.2.mem ((c.tc : Thread Cert.Reference10Ideal.nD Cert.Reference10Ideal.τ).loc Cert.Reference10Ideal.main_v19) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite7.lean ====
abbrev S2048x1024 : Shape := ⟨2, ![2048, 1024]⟩
abbrev S1x128 : Shape := ⟨2, ![1, 128]⟩
abbrev S_ : Shape := ⟨0, ![]⟩

class Facts : Prop where
  bcast_S_S2048x1024 : S_.BroadcastsInDim S2048x1024 (![] : Fin 0 → Fin S2048x1024.rank)
  bcast_S_S1x128 : S_.BroadcastsInDim S1x128 (![] : Fin 0 → Fin S1x128.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S1x128 .f32) : IVec S2048x1024 1 × IVec S1x128 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x128 .f32 := Host.absf main_arg4
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  (main_v2, main_v5)
-- ==== Pre_finite8.lean ====
abbrev S2048x1024 : Shape := ⟨2, ![2048, 1024]⟩
abbrev S1x256 : Shape := ⟨2, ![1, 256]⟩
abbrev S_ : Shape := ⟨0, ![]⟩

class Facts : Prop where
  bcast_S_S2048x1024 : S_.BroadcastsInDim S2048x1024 (![] : Fin 0 → Fin S2048x1024.rank)
  bcast_S_S1x256 : S_.BroadcastsInDim S1x256 (![] : Fin 0 → Fin S1x256.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S1x256 .f32) : IVec S2048x1024 1 × IVec S1x256 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x256 .f32 := Host.absf main_arg4
  let main_cst_0 : FVec F S_ .f32 := constant S_ .f32 0x7F800000#32
  let main_v4 : FVec F S1x256 .f32 := broadcastInDim S1x256 ![] bcast_S_S1x256 main_cst_0
  let main_v5 : IVec S1x256 1 := cmpf .olt main_v3 main_v4
  (main_v2, main_v5)
-- ==== Kernel.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048x1536 : Shape := ⟨2, ![2048, 1536]⟩
abbrev S2048x6144 : Shape := ⟨2, ![2048, 6144]⟩
abbrev S2048x9728 : Shape := ⟨2, ![2048, 9728]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 46
  | .vmem => 34
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024, .f32⟩
  | .hbm, ⟨10, _⟩ => ⟨S_, .f32⟩
  | .hbm, ⟨11, _⟩ => ⟨S2048x1536, .f32⟩
  | .hbm, ⟨12, _⟩ => ⟨S_, .f32⟩
  | .hbm, ⟨13, _⟩ => ⟨S2048x6144, .f32⟩
  | .hbm, ⟨14, _⟩ => ⟨S2048x9728, .f32⟩
  | .hbm, ⟨15, _⟩ => ⟨S2048x1024, .bf16⟩
  | .hbm, ⟨16, _⟩ => ⟨S2048x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x1024, .bf16⟩
  | .hbm, ⟨27, _⟩ => ⟨S2048x9728, .bf16⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S1x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x9728, .f32⟩
  | .hbm, ⟨44, _⟩ => ⟨S2048x1024, .f32⟩
  | .hbm, ⟨45, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x2048, .bf16⟩
  | .local _ .vmem, ⟨29, _⟩ => ⟨S256x2048, .bf16⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev main_v8_9 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v105 : BitVec 1 := Scalar.cmpi .eq arg0 c0_i32
  let v106 : BitVec 32 := Scalar.extui v105
  let c0_i32_57 : BitVec 32 := 0#32
  let v107 : BitVec 1 := Scalar.cmpi .ne v106 c0_i32_57
  v107

def k0_cond2 (i : grid0.Coords) : BitVec 1 :=
  let arg0 : BitVec 32 := BitVec.ofNat 32 (i 0).val
  let c0_i32_58 : BitVec 32 := 0#32
  let v108 : BitVec 1 := Scalar.cmpi .sgt arg0 c0_i32_58
  let v109 : BitVec 32 := Scalar.extui v108
  let c0_i32_59 : BitVec 32 := 0#32
  let v110 : BitVec 1 := Scalar.cmpi .ne v109 c0_i32_59
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S2048, .f32⟩
  | .hbm, ⟨78, _⟩ => ⟨S_, .f32⟩
  | .hbm, ⟨79, _⟩ => ⟨S2048, .f32⟩
  | .hbm, ⟨80, _⟩ => ⟨S2048, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S_, .f32⟩
  | .hbm, ⟨91, _⟩ => ⟨S2048, .f32⟩
  | .hbm, ⟨92, _⟩ => ⟨S2048x1, .f32⟩
  | .hbm, ⟨93, _⟩ => ⟨S2048x1024, .f32⟩
  | .hbm, ⟨94, _⟩ => ⟨S2048x1024, .f32⟩
  | .hbm, ⟨95, _⟩ => ⟨S2048x1, .f32⟩
  | .hbm, ⟨96, _⟩ => ⟨S_, .f32⟩
  | .hbm, ⟨97, _⟩ => ⟨S2048x1, .f32⟩
  | .hbm, ⟨98, _⟩ => ⟨S2048x1, .f32⟩
  | .hbm, ⟨99, _⟩ => ⟨S_, .f32⟩
  | .hbm, ⟨100, _⟩ => ⟨S2048, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S1x1, .f32⟩
  | .hbm, ⟨114, _⟩ => ⟨S2048x1024, .f32⟩
  | .hbm, ⟨115, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_cst_14 : Ref sig .tc := ⟨.hbm, 74, rfl⟩
abbrev main_cst_15 : Ref sig .tc := ⟨.hbm, 75, rfl⟩
abbrev main_v49 : Ref sig .tc := ⟨.hbm, 76, rfl⟩
abbrev main_v50 : Ref sig .tc := ⟨.hbm, 77, rfl⟩
abbrev main_cst_16 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_17 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_18 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_19 : Ref sig .tc := ⟨.hbm, 96, rfl⟩
abbrev main_v66 : Ref sig .tc := ⟨.hbm, 97, rfl⟩
abbrev main_v67 : Ref sig .tc := ⟨.hbm, 98, rfl⟩
abbrev main_cst_20 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Kernel2.lean ====
abbrev S2048x1024 : Shape := ⟨2, ![2048, 1024]⟩
abbrev S8x3x128x1024 : Shape := ⟨4, ![8, 3, 128, 1024]⟩
abbrev S2048x512 : Shape := ⟨2, ![2048, 512]⟩
abbrev S8x1x128x512 : Shape := ⟨4, ![8, 1, 128, 512]⟩
abbrev S1024x512 : Shape := ⟨2, ![1024, 512]⟩
abbrev S8x128x512 : Shape := ⟨3, ![8, 128, 512]⟩
abbrev S8x1x128x1024 : Shape := ⟨4, ![8, 1, 128, 1024]⟩
abbrev S8x128x1024 : Shape := ⟨3, ![8, 128, 1024]⟩
abbrev S1024x1024 : Shape := ⟨2, ![1024, 1024]⟩

abbrev nBuf : Space → Nat
  | .hbm => 23
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S8x3x128x1024, .bf16⟩
  | .hbm, ⟨13, _⟩ => ⟨S8x3x128x1024, .f32⟩
  | .hbm, ⟨14, _⟩ => ⟨S8x1x128x1024, .f32⟩
  | .hbm, ⟨15, _⟩ => ⟨S8x128x1024, .f32⟩
  | .hbm, ⟨16, _⟩ => ⟨S1024x1024, .f32⟩
  | .hbm, ⟨17, _⟩ => ⟨S8x1x128x1024, .f32⟩
  | .hbm, ⟨18, _⟩ => ⟨S8x128x1024, .f32⟩
  | .hbm, ⟨19, _⟩ => ⟨S1024x1024, .f32⟩
  | .hbm, ⟨20, _⟩ => ⟨S8x1x128x1024, .f32⟩
  | .hbm, ⟨21, _⟩ => ⟨S8x128x1024, .f32⟩
  | .hbm, ⟨22, _⟩ => ⟨S1024x1024, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x512, .bf16⟩
  | .local _ .vmem, ⟨8, _⟩ => ⟨S2048x512, .bf16⟩
  | .local _ .vmem, ⟨9, _⟩ => ⟨S8x1x128x512, .bf16⟩
  | .local _ .vmem, ⟨10, _⟩ => ⟨S8x1x128x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![3, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  ![c0_i32_2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  ![c0_i32_2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c1_i32 : BitVec 32 := 1#32
  let v2 : BitVec 32 := Scalar.select v1 c0_i32 c1_i32
  let v3 : BitVec 32 := Scalar.select v0 arg1 v2
  let c0_i32_1 : BitVec 32 := 0#32
  let c0_i32_2 : BitVec 32 := 0#32
  ![c0_i32_1.toNat, v3.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S1024x1024, .f32⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S2048x1024, .f32⟩
  | .hbm, ⟨15, _⟩ => ⟨S1024x1024, .f32⟩
  | .hbm, ⟨16, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel3.lean ====
abbrev S2048x1024 : Shape := ⟨2, ![2048, 1024]⟩
abbrev S2048x9280 : Shape := ⟨2, ![2048, 9280]⟩
abbrev S9280x2048 : Shape := ⟨2, ![9280, 2048]⟩
abbrev S_ : Shape := ⟨0, ![]⟩
abbrev S448x2048 : Shape := ⟨2, ![448, 2048]⟩
abbrev S4096x2048 : Shape := ⟨2, ![4096, 2048]⟩
abbrev S2048x2048 : Shape := ⟨2, ![2048, 2048]⟩
abbrev S1024x2048 : Shape := ⟨2, ![1024, 2048]⟩
abbrev S32x2048 : Shape := ⟨2, ![32, 2048]⟩
abbrev S9728x2048 : Shape := ⟨2, ![9728, 2048]⟩
abbrev S2048x9728 : Shape := ⟨2, ![2048, 9728]⟩
abbrev S9728x1024 : Shape := ⟨2, ![9728, 1024]⟩
abbrev S2048x512 : Shape := ⟨2, ![2048, 512]⟩
abbrev S512x1024 : Shape := ⟨2, ![512, 1024]⟩
abbrev S1024x512 : Shape := ⟨2, ![1024, 512]⟩
abbrev S4096x1024 : Shape := ⟨2, ![4096, 1024]⟩
abbrev S32x1024 : Shape := ⟨2, ![32, 1024]⟩
abbrev S1024x1024 : Shape := ⟨2, ![1024, 1024]⟩
abbrev S9280x1024 : Shape := ⟨2, ![9280, 1024]⟩
abbrev S1024x9280 : Shape := ⟨2, ![1024, 9280]⟩

abbrev nBuf : Space → Nat
  | .hbm => 26
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x9280, .f32⟩
  | .hbm, ⟨2, _⟩ => ⟨S9280x2048, .f32⟩
  | .hbm, ⟨3, _⟩ => ⟨S_, .f32⟩
  | .hbm, ⟨4, _⟩ => ⟨S448x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S1024x2048, .f32⟩
  | .hbm, ⟨9, _⟩ => ⟨S32x2048, .f32⟩
  | .hbm, ⟨10, _⟩ => ⟨S32x2048, .f32⟩
  | .hbm, ⟨11, _⟩ => ⟨S9728x2048, .f32⟩
  | .hbm, ⟨12, _⟩ => ⟨S2048x9728, .f32⟩
  | .hbm, ⟨13, _⟩ => ⟨S2048x9728, .bf16⟩
  | .hbm, ⟨14, _⟩ => ⟨S1024x2048, .f32⟩
  | .hbm, ⟨15, _⟩ => ⟨S1024x2048, .bf16⟩
  | .hbm, ⟨16, _⟩ => ⟨S9728x1024, .bf16⟩
  | .hbm, ⟨17, _⟩ => ⟨S4096x1024, .bf16⟩
  | .hbm, ⟨18, _⟩ => ⟨S32x1024, .bf16⟩
  | .hbm, ⟨19, _⟩ => ⟨S2048x1024, .bf16⟩
  | .hbm, ⟨20, _⟩ => ⟨S1024x1024, .bf16⟩
  | .hbm, ⟨21, _⟩ => ⟨S32x1024, .bf16⟩
  | .hbm, ⟨22, _⟩ => ⟨S2048x1024, .bf16⟩
  | .hbm, ⟨23, _⟩ => ⟨S9280x1024, .bf16⟩
  | .hbm, ⟨24, _⟩ => ⟨S9280x1024, .f32⟩
  | .hbm, ⟨25, _⟩ => ⟨S1024x9280, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x1024 : Shape := ⟨2, ![2048, 1024]⟩
abbrev S2048x9280 : Shape := ⟨2, ![2048, 9280]⟩
abbrev S_ : Shape := ⟨0, ![]⟩
abbrev S1024x9280 : Shape := ⟨2, ![1024, 9280]⟩
abbrev S9280x1024 : Shape := ⟨2, ![9280, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x9280, .f32⟩
  | .hbm, ⟨2, _⟩ => ⟨S_, .f32⟩
  | .hbm, ⟨3, _⟩ => ⟨S1024x9280, .f32⟩
  | .hbm, ⟨4, _⟩ => ⟨S2048x9280, .f32⟩
  | .hbm, ⟨5, _⟩ => ⟨S9280x1024, .f32⟩
  | .hbm, ⟨6, _⟩ => ⟨S1024x9280, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S1024x9280 : Shape := ⟨2, ![1024, 9280]⟩
abbrev S2048x9280 : Shape := ⟨2, ![2048, 9280]⟩
abbrev S9280x2048 : Shape := ⟨2, ![9280, 2048]⟩
abbrev S_ : Shape := ⟨0, ![]⟩
abbrev S448x2048 : Shape := ⟨2, ![448, 2048]⟩
abbrev S4096x2048 : Shape := ⟨2, ![4096, 2048]⟩
abbrev S2048x2048 : Shape := ⟨2, ![2048, 2048]⟩
abbrev S1024x2048 : Shape := ⟨2, ![1024, 2048]⟩
abbrev S32x2048 : Shape := ⟨2, ![32, 2048]⟩
abbrev S9728x2048 : Shape := ⟨2, ![9728, 2048]⟩
abbrev S2048x9728 : Shape := ⟨2, ![2048, 9728]⟩
abbrev S9280x1024 : Shape := ⟨2, ![9280, 1024]⟩
abbrev S448x1024 : Shape := ⟨2, ![448, 1024]⟩
abbrev S4096x1024 : Shape := ⟨2, ![4096, 1024]⟩
abbrev S2048x1024 : Shape := ⟨2, ![2048, 1024]⟩
abbrev S1024x1024 : Shape := ⟨2, ![1024, 1024]⟩
abbrev S32x1024 : Shape := ⟨2, ![32, 1024]⟩
abbrev S9728x1024 : Shape := ⟨2, ![9728, 1024]⟩
abbrev S512x9728 : Shape := ⟨2, ![512, 9728]⟩
abbrev S512x1024 : Shape := ⟨2, ![512, 1024]⟩

abbrev nBuf : Space → Nat
  | .hbm => 26
  | .vmem => 5
  | .smem => 0
  | _ => 0

abbrev bufTy : (tb : Table) → Fin (tcTables nBuf tb) → BufTy
  | .hbm, ⟨0, _⟩ => ⟨S1024x9280, .f32⟩
  | .hbm, ⟨1, _⟩ => ⟨S2048x9280, .f32⟩
  | .hbm, ⟨2, _⟩ => ⟨S9280x2048, .f32⟩
  | .hbm, ⟨3, _⟩ => ⟨S_, .f32⟩
  | .hbm, ⟨4, _⟩ => ⟨S448x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S1024x2048, .f32⟩
  | .hbm, ⟨9, _⟩ => ⟨S32x2048, .f32⟩
  | .hbm, ⟨10, _⟩ => ⟨S32x2048, .f32⟩
  | .hbm, ⟨11, _⟩ => ⟨S9728x2048, .f32⟩
  | .hbm, ⟨12, _⟩ => ⟨S2048x9728, .f32⟩
  | .hbm, ⟨13, _⟩ => ⟨S2048x9728, .bf16⟩
  | .hbm, ⟨14, _⟩ => ⟨S9280x1024, .f32⟩
  | .hbm, ⟨15, _⟩ => ⟨S9280x1024, .bf16⟩
  | .hbm, ⟨16, _⟩ => ⟨S_, .bf16⟩
  | .hbm, ⟨17, _⟩ => ⟨S448x1024, .bf16⟩
  | .hbm, ⟨18, _⟩ => ⟨S4096x1024, .bf16⟩
  | .hbm, ⟨19, _⟩ => ⟨S2048x1024, .bf16⟩
  | .hbm, ⟨20, _⟩ => ⟨S2048x1024, .bf16⟩
  | .hbm, ⟨21, _⟩ => ⟨S1024x1024, .bf16⟩
  | .hbm, ⟨22, _⟩ => ⟨S32x1024, .bf16⟩
  | .hbm, ⟨23, _⟩ => ⟨S32x1024, .bf16⟩
  | .hbm, ⟨24, _⟩ => ⟨S9728x1024, .bf16⟩
  | .hbm, ⟨25, _⟩ => ⟨S2048x1024, .f32⟩
  | .local _ .vmem, ⟨0, _⟩ => ⟨S512x9728, .bf16⟩
  | .local _ .vmem, ⟨1, _⟩ => ⟨S512x9728, .bf16⟩
  | .local _ .vmem, ⟨2, _⟩ => ⟨S9728x1024, .bf16⟩
  | .local _ .vmem, ⟨3, _⟩ => ⟨S512x1024, .f32⟩
  | .local _ .vmem, ⟨4, _⟩ => ⟨S512x1024, .f32⟩
  | _, _ => ⟨S1024x9280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x9728 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S9728x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x9280 : Shape := ⟨2, ![1024, 9280]⟩
abbrev S2048x9280 : Shape := ⟨2, ![2048, 9280]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x9280, .f32⟩
  | .hbm, ⟨1, _⟩ => ⟨S2048x9280, .f32⟩
  | .hbm, ⟨2, _⟩ => ⟨S_, .f32⟩
  | .hbm, ⟨3, _⟩ => ⟨S2048x1024, .f32⟩
  | .hbm, ⟨4, _⟩ => ⟨S2048x9280, .f32⟩
  | .hbm, ⟨5, _⟩ => ⟨S2048x1024, .f32⟩
  | _, _ => ⟨S1024x9280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel6.lean ====
abbrev S2048x1024 : Shape := ⟨2, ![2048, 1024]⟩
abbrev S1024x9280 : Shape := ⟨2, ![1024, 9280]⟩
abbrev S9280x1024 : Shape := ⟨2, ![9280, 1024]⟩
abbrev S_ : Shape := ⟨0, ![]⟩
abbrev S448x1024 : Shape := ⟨2, ![448, 1024]⟩
abbrev S4096x1024 : Shape := ⟨2, ![4096, 1024]⟩
abbrev S1024x1024 : Shape := ⟨2, ![1024, 1024]⟩
abbrev S32x1024 : Shape := ⟨2, ![32, 1024]⟩
abbrev S9728x1024 : Shape := ⟨2, ![9728, 1024]⟩
abbrev S2048x9728 : Shape := ⟨2, ![2048, 9728]⟩
abbrev S512x1024 : Shape := ⟨2, ![512, 1024]⟩
abbrev S2048x512 : Shape := ⟨2, ![2048, 512]⟩
abbrev S9728x2048 : Shape := ⟨2, ![9728, 2048]⟩
abbrev S4096x2048 : Shape := ⟨2, ![4096, 2048]⟩
abbrev S32x2048 : Shape := ⟨2, ![32, 2048]⟩
abbrev S2048x2048 : Shape := ⟨2, ![2048, 2048]⟩
abbrev S1024x2048 : Shape := ⟨2, ![1024, 2048]⟩
abbrev S9280x2048 : Shape := ⟨2, ![9280, 2048]⟩
abbrev S2048x9280 : Shape := ⟨2, ![2048, 9280]⟩

abbrev nBuf : Space → Nat
  | .hbm => 24
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x9280, .f32⟩
  | .hbm, ⟨2, _⟩ => ⟨S2048x1024, .bf16⟩
  | .hbm, ⟨3, _⟩ => ⟨S9280x1024, .f32⟩
  | .hbm, ⟨4, _⟩ => ⟨S9280x1024, .bf16⟩
  | .hbm, ⟨5, _⟩ => ⟨S_, .bf16⟩
  | .hbm, ⟨6, _⟩ => ⟨S448x1024, .bf16⟩
  | .hbm, ⟨7, _⟩ => ⟨S4096x1024, .bf16⟩
  | .hbm, ⟨8, _⟩ => ⟨S2048x1024, .bf16⟩
  | .hbm, ⟨9, _⟩ => ⟨S2048x1024, .bf16⟩
  | .hbm, ⟨10, _⟩ => ⟨S1024x1024, .bf16⟩
  | .hbm, ⟨11, _⟩ => ⟨S32x1024, .bf16⟩
  | .hbm, ⟨12, _⟩ => ⟨S32x1024, .bf16⟩
  | .hbm, ⟨13, _⟩ => ⟨S9728x1024, .bf16⟩
  | .hbm, ⟨14, _⟩ => ⟨S2048x9728, .f32⟩
  | .hbm, ⟨15, _⟩ => ⟨S9728x2048, .f32⟩
  | .hbm, ⟨16, _⟩ => ⟨S4096x2048, .f32⟩
  | .hbm, ⟨17, _⟩ => ⟨S32x2048, .f32⟩
  | .hbm, ⟨18, _⟩ => ⟨S2048x2048, .f32⟩
  | .hbm, ⟨19, _⟩ => ⟨S1024x2048, .f32⟩
  | .hbm, ⟨20, _⟩ => ⟨S32x2048, .f32⟩
  | .hbm, ⟨21, _⟩ => ⟨S2048x2048, .f32⟩
  | .hbm, ⟨22, _⟩ => ⟨S9280x2048, .f32⟩
  | .hbm, ⟨23, _⟩ => ⟨S2048x9280, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S1024x9280 : Shape := ⟨2, ![1024, 9280]⟩
abbrev S2048x9280 : Shape := ⟨2, ![2048, 9280]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x9280, .f32⟩
  | .hbm, ⟨2, _⟩ => ⟨S2048x9280, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S2048x1024 : Shape := ⟨2, ![2048, 1024]⟩
abbrev S1x128 : Shape := ⟨2, ![1, 128]⟩
abbrev S_ : Shape := ⟨0, ![]⟩
abbrev S2048x9728 : Shape := ⟨2, ![2048, 9728]⟩
abbrev S2048x3072 : Shape := ⟨2, ![2048, 3072]⟩
abbrev S2048x5632 : Shape := ⟨2, ![2048, 5632]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 17
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x128, .f32⟩
  | .hbm, ⟨5, _⟩ => ⟨S_, .bf16⟩
  | .hbm, ⟨6, _⟩ => ⟨S2048x9728, .bf16⟩
  | .hbm, ⟨7, _⟩ => ⟨S_, .f32⟩
  | .hbm, ⟨8, _⟩ => ⟨S2048x3072, .f32⟩
  | .hbm, ⟨9, _⟩ => ⟨S_, .f32⟩
  | .hbm, ⟨10, _⟩ => ⟨S2048x5632, .f32⟩
  | .hbm, ⟨11, _⟩ => ⟨S2048x9728, .f32⟩
  | .hbm, ⟨12, _⟩ => ⟨S2048x1024, .f32⟩
  | .hbm, ⟨13, _⟩ => ⟨S2048x9728, .bf16⟩
  | .hbm, ⟨14, _⟩ => ⟨S1x128, .f32⟩
  | .hbm, ⟨15, _⟩ => ⟨S2048x1024, .bf16⟩
  | .hbm, ⟨16, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v426 : BitVec 1 := Scalar.cmpi .eq arg0 c0_i32
  let v427 : BitVec 32 := Scalar.extui v426
  let c0_i32_154 : BitVec 32 := 0#32
  let v428 : BitVec 1 := Scalar.cmpi .ne v427 c0_i32_154
  v428

def k0_cond2 (i : grid0.Coords) : BitVec 1 :=
  let arg0 : BitVec 32 := BitVec.ofNat 32 (i 0).val
  let c0_i32_155 : BitVec 32 := 0#32
  let v429 : BitVec 1 := Scalar.cmpi .sgt arg0 c0_i32_155
  let v430 : BitVec 32 := Scalar.extui v429
  let c0_i32_156 : BitVec 32 := 0#32
  let v431 : BitVec 1 := Scalar.cmpi .ne v430 c0_i32_156
  v431

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S2048x1024 : Shape := ⟨2, ![2048, 1024]⟩
abbrev S1x128 : Shape := ⟨2, ![1, 128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S128 : Shape := ⟨1, ![128]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x128, .f32⟩
  | .hbm, ⟨5, _⟩ => ⟨S2048x1024, .f32⟩
  | .hbm, ⟨6, _⟩ => ⟨S2048x8x128, .f32⟩
  | .hbm, ⟨7, _⟩ => ⟨S2048x8x128, .f32⟩
  | .hbm, ⟨8, _⟩ => ⟨S_, .f32⟩
  | .hbm, ⟨9, _⟩ => ⟨S2048x8, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S2048x8x1, .f32⟩
  | .hbm, ⟨18, _⟩ => ⟨S2048x8x1, .f32⟩
  | .hbm, ⟨19, _⟩ => ⟨S_, .f32⟩
  | .hbm, ⟨20, _⟩ => ⟨S2048x8x1, .f32⟩
  | .hbm, ⟨21, _⟩ => ⟨S2048x8x1, .f32⟩
  | .hbm, ⟨22, _⟩ => ⟨S2048x8x128, .f32⟩
  | .hbm, ⟨23, _⟩ => ⟨S2048x8x128, .f32⟩
  | .hbm, ⟨24, _⟩ => ⟨S1x1x128, .f32⟩
  | .hbm, ⟨25, _⟩ => ⟨S2048x8x128, .f32⟩
  | .hbm, ⟨26, _⟩ => ⟨S2048x8x128, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x8x128, .f32⟩
  | .hbm, ⟨41, _⟩ => ⟨S2048x8x128, .f32⟩
  | .hbm, ⟨42, _⟩ => ⟨S2048x1024, .f32⟩
  | .hbm, ⟨43, _⟩ => ⟨S2048x8x128, .f32⟩
  | .hbm, ⟨44, _⟩ => ⟨S2048x8x128, .f32⟩
  | .hbm, ⟨45, _⟩ => ⟨S2048x8x128, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x8x128, .f32⟩
  | .hbm, ⟨52, _⟩ => ⟨S_, .f32⟩
  | .hbm, ⟨53, _⟩ => ⟨S128, .f32⟩
  | .hbm, ⟨54, _⟩ => ⟨S1x1x128, .f32⟩
  | .hbm, ⟨55, _⟩ => ⟨S2048x8x128, .f32⟩
  | .hbm, ⟨56, _⟩ => ⟨S2048x8x128, .f32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S2048x8x128, .f32⟩
  | .hbm, ⟨61, _⟩ => ⟨S_, .f32⟩
  | .hbm, ⟨62, _⟩ => ⟨S2048x8, .f32⟩
  | .hbm, ⟨63, _⟩ => ⟨S2048x8x1, .f32⟩
  | .hbm, ⟨64, _⟩ => ⟨S2048x8x128, .f32⟩
  | .hbm, ⟨65, _⟩ => ⟨S2048x8x128, .f32⟩
  | .hbm, ⟨66, _⟩ => ⟨S2048x8x1, .f32⟩
  | .hbm, ⟨67, _⟩ => ⟨S_, .f32⟩
  | .hbm, ⟨68, _⟩ => ⟨S2048x8x1, .f32⟩
  | .hbm, ⟨69, _⟩ => ⟨S2048x8x1, .f32⟩
  | .hbm, ⟨70, _⟩ => ⟨S_, .f32⟩
  | .hbm, ⟨71, _⟩ => ⟨S2048x8, .f32⟩
  | .hbm, ⟨72, _⟩ => ⟨S2048x8x128, .f32⟩
  | .hbm, ⟨73, _⟩ => ⟨S2048x8x128, .f32⟩
  | .hbm, ⟨74, _⟩ => ⟨S2048x8x128, .f32⟩
  | .hbm, ⟨75, _⟩ => ⟨S2048x8x128, .f32⟩
  | .hbm, ⟨76, _⟩ => ⟨S2048x8x128, .f32⟩
  | .hbm, ⟨77, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Kernel8.lean ====
abbrev S2048x1024 : Shape := ⟨2, ![2048, 1024]⟩
abbrev S1x256 : Shape := ⟨2, ![1, 256]⟩
abbrev S_ : Shape := ⟨0, ![]⟩
abbrev S2048x9728 : Shape := ⟨2, ![2048, 9728]⟩
abbrev S2048x8192 : Shape := ⟨2, ![2048, 8192]⟩
abbrev S2048x512 : Shape := ⟨2, ![2048, 512]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 17
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x256, .f32⟩
  | .hbm, ⟨5, _⟩ => ⟨S_, .bf16⟩
  | .hbm, ⟨6, _⟩ => ⟨S2048x9728, .bf16⟩
  | .hbm, ⟨7, _⟩ => ⟨S_, .f32⟩
  | .hbm, ⟨8, _⟩ => ⟨S2048x8192, .f32⟩
  | .hbm, ⟨9, _⟩ => ⟨S_, .f32⟩
  | .hbm, ⟨10, _⟩ => ⟨S2048x512, .f32⟩
  | .hbm, ⟨11, _⟩ => ⟨S2048x9728, .f32⟩
  | .hbm, ⟨12, _⟩ => ⟨S2048x1024, .f32⟩
  | .hbm, ⟨13, _⟩ => ⟨S2048x9728, .bf16⟩
  | .hbm, ⟨14, _⟩ => ⟨S1x256, .f32⟩
  | .hbm, ⟨15, _⟩ => ⟨S2048x1024, .bf16⟩
  | .hbm, ⟨16, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x256, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v214 : BitVec 1 := Scalar.cmpi .eq arg0 c0_i32
  let v215 : BitVec 32 := Scalar.extui v214
  let c0_i32_78 : BitVec 32 := 0#32
  let v216 : BitVec 1 := Scalar.cmpi .ne v215 c0_i32_78
  v216

def k0_cond2 (i : grid0.Coords) : BitVec 1 :=
  let arg0 : BitVec 32 := BitVec.ofNat 32 (i 0).val
  let c0_i32_79 : BitVec 32 := 0#32
  let v217 : BitVec 1 := Scalar.cmpi .sgt arg0 c0_i32_79
  let v218 : BitVec 32 := Scalar.extui v217
  let c0_i32_80 : BitVec 32 := 0#32
  let v219 : BitVec 1 := Scalar.cmpi .ne v218 c0_i32_80
  v219

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S2048x1024 : Shape := ⟨2, ![2048, 1024]⟩
abbrev S1x256 : Shape := ⟨2, ![1, 256]⟩
abbrev S2048x4x256 : Shape := ⟨3, ![2048, 4, 256]⟩
abbrev S_ : Shape := ⟨0, ![]⟩
abbrev S2048x4 : Shape := ⟨2, ![2048, 4]⟩
abbrev S2048x4x1 : Shape := ⟨3, ![2048, 4, 1]⟩
abbrev S1x1x256 : Shape := ⟨3, ![1, 1, 256]⟩
abbrev S256 : Shape := ⟨1, ![256]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x256, .f32⟩
  | .hbm, ⟨5, _⟩ => ⟨S2048x1024, .f32⟩
  | .hbm, ⟨6, _⟩ => ⟨S2048x4x256, .f32⟩
  | .hbm, ⟨7, _⟩ => ⟨S2048x4x256, .f32⟩
  | .hbm, ⟨8, _⟩ => ⟨S_, .f32⟩
  | .hbm, ⟨9, _⟩ => ⟨S2048x4, .f32⟩
  | .hbm, ⟨10, _⟩ => ⟨S2048x4x1, .f32⟩
  | .hbm, ⟨11, _⟩ => ⟨S_, .f32⟩
  | .hbm, ⟨12, _⟩ => ⟨S2048x4x1, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S2048x4x1, .f32⟩
  | .hbm, ⟨18, _⟩ => ⟨S2048x4x1, .f32⟩
  | .hbm, ⟨19, _⟩ => ⟨S_, .f32⟩
  | .hbm, ⟨20, _⟩ => ⟨S2048x4x1, .f32⟩
  | .hbm, ⟨21, _⟩ => ⟨S2048x4x1, .f32⟩
  | .hbm, ⟨22, _⟩ => ⟨S2048x4x256, .f32⟩
  | .hbm, ⟨23, _⟩ => ⟨S2048x4x256, .f32⟩
  | .hbm, ⟨24, _⟩ => ⟨S1x1x256, .f32⟩
  | .hbm, ⟨25, _⟩ => ⟨S2048x4x256, .f32⟩
  | .hbm, ⟨26, _⟩ => ⟨S2048x4x256, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x4x256, .f32⟩
  | .hbm, ⟨41, _⟩ => ⟨S2048x4x256, .f32⟩
  | .hbm, ⟨42, _⟩ => ⟨S2048x1024, .f32⟩
  | .hbm, ⟨43, _⟩ => ⟨S2048x4x256, .f32⟩
  | .hbm, ⟨44, _⟩ => ⟨S2048x4x256, .f32⟩
  | .hbm, ⟨45, _⟩ => ⟨S2048x4x256, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x4x256, .f32⟩
  | .hbm, ⟨52, _⟩ => ⟨S_, .f32⟩
  | .hbm, ⟨53, _⟩ => ⟨S256, .f32⟩
  | .hbm, ⟨54, _⟩ => ⟨S1x1x256, .f32⟩
  | .hbm, ⟨55, _⟩ => ⟨S2048x4x256, .f32⟩
  | .hbm, ⟨56, _⟩ => ⟨S2048x4x256, .f32⟩
  | .hbm, ⟨57, _⟩ => ⟨S_, .f32⟩
  | .hbm, ⟨58, _⟩ => ⟨S256, .f32⟩
  | .hbm, ⟨59, _⟩ => ⟨S1x256, .f32⟩
  | .hbm, ⟨60, _⟩ => ⟨S2048x4x256, .f32⟩
  | .hbm, ⟨61, _⟩ => ⟨S_, .f32⟩
  | .hbm, ⟨62, _⟩ => ⟨S2048x4, .f32⟩
  | .hbm, ⟨63, _⟩ => ⟨S2048x4x1, .f32⟩
  | .hbm, ⟨64, _⟩ => ⟨S2048x4x256, .f32⟩
  | .hbm, ⟨65, _⟩ => ⟨S2048x4x256, .f32⟩
  | .hbm, ⟨66, _⟩ => ⟨S2048x4x1, .f32⟩
  | .hbm, ⟨67, _⟩ => ⟨S_, .f32⟩
  | .hbm, ⟨68, _⟩ => ⟨S2048x4x1, .f32⟩
  | .hbm, ⟨69, _⟩ => ⟨S2048x4x1, .f32⟩
  | .hbm, ⟨70, _⟩ => ⟨S_, .f32⟩
  | .hbm, ⟨71, _⟩ => ⟨S2048x4, .f32⟩
  | .hbm, ⟨72, _⟩ => ⟨S2048x4x256, .f32⟩
  | .hbm, ⟨73, _⟩ => ⟨S2048x4x256, .f32⟩
  | .hbm, ⟨74, _⟩ => ⟨S2048x4x256, .f32⟩
  | .hbm, ⟨75, _⟩ => ⟨S2048x4x256, .f32⟩
  | .hbm, ⟨76, _⟩ => ⟨S2048x4x256, .f32⟩
  | .hbm, ⟨77, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Kernel9.lean ====
abbrev S8x384x1024 : Shape := ⟨3, ![8, 384, 1024]⟩
abbrev S1x128x1024 : Shape := ⟨3, ![1, 128, 1024]⟩
abbrev S3x128x1024 : Shape := ⟨3, ![3, 128, 1024]⟩
abbrev S384x1024 : Shape := ⟨2, ![384, 1024]⟩
abbrev S8x128x1024 : Shape := ⟨3, ![8, 128, 1024]⟩
abbrev S128x1024 : Shape := ⟨2, ![128, 1024]⟩
abbrev S3x1x128x1024 : Shape := ⟨4, ![3, 1, 128, 1024]⟩
abbrev S1x1x128x1024 : Shape := ⟨4, ![1, 1, 128, 1024]⟩

abbrev nBuf : Space → Nat
  | .hbm => 49
  | .vmem => 18
  | .smem => 0
  | _ => 0

abbrev bufTy : (tb : Table) → Fin (tcTables nBuf tb) → BufTy
  | .hbm, ⟨0, _⟩ => ⟨S8x384x1024, .bf16⟩
  | .hbm, ⟨1, _⟩ => ⟨S8x384x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S3x128x1024, .f32⟩
  | .hbm, ⟨12, _⟩ => ⟨S384x1024, .f32⟩
  | .hbm, ⟨13, _⟩ => ⟨S3x128x1024, .f32⟩
  | .hbm, ⟨14, _⟩ => ⟨S384x1024, .f32⟩
  | .hbm, ⟨15, _⟩ => ⟨S3x128x1024, .f32⟩
  | .hbm, ⟨16, _⟩ => ⟨S384x1024, .f32⟩
  | .hbm, ⟨17, _⟩ => ⟨S384x1024, .f32⟩
  | .hbm, ⟨18, _⟩ => ⟨S384x1024, .f32⟩
  | .hbm, ⟨19, _⟩ => ⟨S384x1024, .f32⟩
  | .hbm, ⟨20, _⟩ => ⟨S384x1024, .f32⟩
  | .hbm, ⟨21, _⟩ => ⟨S3x1x128x1024, .f32⟩
  | .hbm, ⟨22, _⟩ => ⟨S1x1x128x1024, .f32⟩
  | .hbm, ⟨23, _⟩ => ⟨S1x128x1024, .f32⟩
  | .hbm, ⟨24, _⟩ => ⟨S1x1x128x1024, .f32⟩
  | .hbm, ⟨25, _⟩ => ⟨S1x128x1024, .f32⟩
  | .hbm, ⟨26, _⟩ => ⟨S1x1x128x1024, .f32⟩
  | .hbm, ⟨27, _⟩ => ⟨S1x128x1024, .f32⟩
  | .hbm, ⟨28, _⟩ => ⟨S3x1x128x1024, .f32⟩
  | .hbm, ⟨29, _⟩ => ⟨S1x1x128x1024, .f32⟩
  | .hbm, ⟨30, _⟩ => ⟨S1x128x1024, .f32⟩
  | .hbm, ⟨31, _⟩ => ⟨S1x1x128x1024, .f32⟩
  | .hbm, ⟨32, _⟩ => ⟨S1x128x1024, .f32⟩
  | .hbm, ⟨33, _⟩ => ⟨S1x1x128x1024, .f32⟩
  | .hbm, ⟨34, _⟩ => ⟨S1x128x1024, .f32⟩
  | .hbm, ⟨35, _⟩ => ⟨S3x1x128x1024, .f32⟩
  | .hbm, ⟨36, _⟩ => ⟨S1x1x128x1024, .f32⟩
  | .hbm, ⟨37, _⟩ => ⟨S1x128x1024, .f32⟩
  | .hbm, ⟨38, _⟩ => ⟨S1x1x128x1024, .f32⟩
  | .hbm, ⟨39, _⟩ => ⟨S1x128x1024, .f32⟩
  | .hbm, ⟨40, _⟩ => ⟨S1x1x128x1024, .f32⟩
  | .hbm, ⟨41, _⟩ => ⟨S1x128x1024, .f32⟩
  | .hbm, ⟨42, _⟩ => ⟨S3x1x128x1024, .f32⟩
  | .hbm, ⟨43, _⟩ => ⟨S1x1x128x1024, .f32⟩
  | .hbm, ⟨44, _⟩ => ⟨S1x128x1024, .f32⟩
  | .hbm, ⟨45, _⟩ => ⟨S1x1x128x1024, .f32⟩
  | .hbm, ⟨46, _⟩ => ⟨S1x128x1024, .f32⟩
  | .hbm, ⟨47, _⟩ => ⟨S1x1x128x1024, .f32⟩
  | .hbm, ⟨48, _⟩ => ⟨S1x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x128x1024, .bf16⟩
  | .local _ .vmem, ⟨9, _⟩ => ⟨S1x128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S8x384x1024 : Shape := ⟨3, ![8, 384, 1024]⟩
abbrev S1x128x1024 : Shape := ⟨3, ![1, 128, 1024]⟩
abbrev S1x384x1024 : Shape := ⟨3, ![1, 384, 1024]⟩
abbrev S384x1024 : Shape := ⟨2, ![384, 1024]⟩
abbrev S7x384x1024 : Shape := ⟨3, ![7, 384, 1024]⟩
abbrev S_ : Shape := ⟨0, ![]⟩
abbrev S3x1x128x1024 : Shape := ⟨4, ![3, 1, 128, 1024]⟩
abbrev S1x1x128x1024 : Shape := ⟨4, ![1, 1, 128, 1024]⟩

abbrev nBuf : Space → Nat
  | .hbm => 131
  | .vmem => 0
  | .smem => 0
  | _ => 0

abbrev hbmTy0_0 (i : Nat) : BufTy := match i % 128 with
  | 0 => ⟨S8x384x1024, .bf16⟩
  | 1 => ⟨S8x384x1024, .bf16⟩
  | 2 => ⟨S1x128x1024, .f32⟩
  | 3 => ⟨S1x128x1024, .f32⟩
  | 4 => ⟨S1x128x1024, .f32⟩
  | 5 => ⟨S1x128x1024, .f32⟩
  | 6 => ⟨S1x128x1024, .f32⟩
  | 7 => ⟨S1x128x1024, .f32⟩
  | 8 => ⟨S1x128x1024, .f32⟩
  | 9 => ⟨S1x128x1024, .f32⟩
  | 10 => ⟨S1x128x1024, .f32⟩
  | 11 => ⟨S1x384x1024, .bf16⟩
  | 12 => ⟨S384x1024, .bf16⟩
  | 13 => ⟨S384x1024, .f32⟩
  | 14 => ⟨S7x384x1024, .bf16⟩
  | 15 => ⟨S7x384x1024, .f32⟩
  | 16 => ⟨S_, .f32⟩
  | 17 => ⟨S384x1024, .f32⟩
  | 18 => ⟨S384x1024, .f32⟩
  | 19 => ⟨S3x1x128x1024, .f32⟩
  | 20 => ⟨S1x1x128x1024, .f32⟩
  | 21 => ⟨S1x128x1024, .f32⟩
  | 22 => ⟨S1x1x128x1024, .f32⟩
  | 23 => ⟨S1x128x1024, .f32⟩
  | 24 => ⟨S_, .f32⟩
  | 25 => ⟨S1x128x1024, .f32⟩
  | 26 => ⟨S1x128x1024, .f32⟩
  | 27 => ⟨S_, .f32⟩
  | 28 => ⟨S1x128x1024, .f32⟩
  | 29 => ⟨S1x128x1024, .f32⟩
  | 30 => ⟨S1x128x1024, .f32⟩
  | 31 => ⟨S_, .f32⟩
  | 32 => ⟨S1x128x1024, .f32⟩
  | 33 => ⟨S1x128x1024, .f32⟩
  | 34 => ⟨S1x128x1024, .f32⟩
  | 35 => ⟨S_, .f32⟩
  | 36 => ⟨S1x128x1024, .f32⟩
  | 37 => ⟨S1x128x1024, .f32⟩
  | 38 => ⟨S1x128x1024, .f32⟩
  | 39 => ⟨S_, .f32⟩
  | 40 => ⟨S1x128x1024, .f32⟩
  | 41 => ⟨S1x128x1024, .f32⟩
  | 42 => ⟨S_, .f32⟩
  | 43 => ⟨S1x128x1024, .f32⟩
  | 44 => ⟨S1x128x1024, .f32⟩
  | 45 => ⟨S1x128x1024, .f32⟩
  | 46 => ⟨S_, .f32⟩
  | 47 => ⟨S1x128x1024, .f32⟩
  | 48 => ⟨S1x128x1024, .f32⟩
  | 49 => ⟨S1x128x1024, .f32⟩
  | 50 => ⟨S_, .f32⟩
  | 51 => ⟨S1x128x1024, .f32⟩
  | 52 => ⟨S1x128x1024, .f32⟩
  | 53 => ⟨S1x128x1024, .f32⟩
  | 54 => ⟨S_, .f32⟩
  | 55 => ⟨S1x128x1024, .f32⟩
  | 56 => ⟨S1x128x1024, .f32⟩
  | 57 => ⟨S1x1x128x1024, .f32⟩
  | 58 => ⟨S1x128x1024, .f32⟩
  | 59 => ⟨S1x1x128x1024, .f32⟩
  | 60 => ⟨S1x128x1024, .f32⟩
  | 61 => ⟨S_, .f32⟩
  | 62 => ⟨S1x128x1024, .f32⟩
  | 63 => ⟨S1x128x1024, .f32⟩
  | 64 => ⟨S_, .f32⟩
  | 65 => ⟨S1x128x1024, .f32⟩
  | 66 => ⟨S1x128x1024, .f32⟩
  | 67 => ⟨S1x128x1024, .f32⟩
  | 68 => ⟨S_, .f32⟩
  | 69 => ⟨S1x128x1024, .f32⟩
  | 70 => ⟨S1x128x1024, .f32⟩
  | 71 => ⟨S1x128x1024, .f32⟩
  | 72 => ⟨S_, .f32⟩
  | 73 => ⟨S1x128x1024, .f32⟩
  | 74 => ⟨S1x128x1024, .f32⟩
  | 75 => ⟨S1x128x1024, .f32⟩
  | 76 => ⟨S_, .f32⟩
  | 77 => ⟨S1x128x1024, .f32⟩
  | 78 => ⟨S1x128x1024, .f32⟩
  | 79 => ⟨S_, .f32⟩
  | 80 => ⟨S1x128x1024, .f32⟩
  | 81 => ⟨S1x128x1024, .f32⟩
  | 82 => ⟨S1x128x1024, .f32⟩
  | 83 => ⟨S_, .f32⟩
  | 84 => ⟨S1x128x1024, .f32⟩
  | 85 => ⟨S1x128x1024, .f32⟩
  | 86 => ⟨S1x128x1024, .f32⟩
  | 87 => ⟨S_, .f32⟩
  | 88 => ⟨S1x128x1024, .f32⟩
  | 89 => ⟨S1x128x1024, .f32⟩
  | 90 => ⟨S1x128x1024, .f32⟩
  | 91 => ⟨S_, .f32⟩
  | 92 => ⟨S1x128x1024, .f32⟩
  | 93 => ⟨S1x128x1024, .f32⟩
  | 94 => ⟨S1x1x128x1024, .f32⟩
  | 95 => ⟨S1x128x1024, .f32⟩
  | 96 => ⟨S1x1x128x1024, .f32⟩
  | 97 => ⟨S1x128x1024, .f32⟩
  | 98 => ⟨S_, .f32⟩
  | 99 => ⟨S1x128x1024, .f32⟩
  | 100 => ⟨S1x128x1024, .f32⟩
  | 101 => ⟨S_, .f32⟩
  | 102 => ⟨S1x128x1024, .f32⟩
  | 103 => ⟨S1x128x1024, .f32⟩
  | 104 => ⟨S1x128x1024, .f32⟩
  | 105 => ⟨S_, .f32⟩
  | 106 => ⟨S1x128x1024, .f32⟩
  | 107 => ⟨S1x128x1024, .f32⟩
  | 108 => ⟨S1x128x1024, .f32⟩
  | 109 => ⟨S_, .f32⟩
  | 110 => ⟨S1x128x1024, .f32⟩
  | 111 => ⟨S1x128x1024, .f32⟩
  | 112 => ⟨S1x128x1024, .f32⟩
  | 113 => ⟨S_, .f32⟩
  | 114 => ⟨S1x128x1024, .f32⟩
  | 115 => ⟨S1x128x1024, .f32⟩
  | 116 => ⟨S_, .f32⟩
  | 117 => ⟨S1x128x1024, .f32⟩
  | 118 => ⟨S1x128x1024, .f32⟩
  | 119 => ⟨S1x128x1024, .f32⟩
  | 120 => ⟨S_, .f32⟩
  | 121 => ⟨S1x128x1024, .f32⟩
  | 122 => ⟨S1x128x1024, .f32⟩
  | 123 => ⟨S1x128x1024, .f32⟩
  | 124 => ⟨S_, .f32⟩
  | 125 => ⟨S1x128x1024, .f32⟩
  | 126 => ⟨S1x128x1024, .f32⟩
  | 127 => ⟨S1x128x1024, .f32⟩
  | _ => ⟨S8x384x1024, .bf16⟩

abbrev hbmTy0_1 (i : Nat) : BufTy := match i % 128 with
  | 0 => ⟨S_, .f32⟩
  | 1 => ⟨S1x128x1024, .f32⟩
  | 2 => ⟨S1x128x1024, .f32⟩
  | _ => ⟨S8x384x1024, .bf16⟩

abbrev hbmTy (i : Nat) : BufTy := match i / 128 with
  | 0 => hbmTy0_0 i
  | 1 => hbmTy0_1 i
  | _ => ⟨S8x384x1024, .bf16⟩

abbrev bufTy : (tb : Table) → Fin (tcTables nBuf tb) → BufTy
  | .hbm, ⟨i, _⟩ => hbmTy i
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_15 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_17 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_18 : Ref sig .tc := ⟨.hbm, 98, rfl⟩
abbrev main_v68 : Ref sig .tc := ⟨.hbm, 99, rfl⟩
abbrev main_v69 : Ref sig .tc := ⟨.hbm, 100, rfl⟩
abbrev main_cst_19 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_20 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_21 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_22 : Ref sig .tc := ⟨.hbm, 113, rfl⟩
abbrev main_v79 : Ref sig .tc := ⟨.hbm, 114, rfl⟩
abbrev main_v80 : Ref sig .tc := ⟨.hbm, 115, rfl⟩
abbrev main_cst_23 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_24 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_25 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_26 : Ref sig .tc := ⟨.hbm, 128, rfl⟩
abbrev main_v90 : Ref sig .tc := ⟨.hbm, 129, rfl⟩
abbrev main_v91 : Ref sig .tc := ⟨.hbm, 130, rfl⟩

abbrev nD : Nat := 1
abbrev τ : Topo := Topo.v7x

variable {F : FTy → Type} [FloatOps F]
-- ==== Kernel10.lean ====
abbrev S4x1160x1024 : Shape := ⟨3, ![4, 1160, 1024]⟩
abbrev S1x1024x1160 : Shape := ⟨3, ![1, 1024, 1160]⟩
abbrev S1024x1160 : Shape := ⟨2, ![1024, 1160]⟩
abbrev S1160x1024 : Shape := ⟨2, ![1160, 1024]⟩
abbrev S4x1160x256 : Shape := ⟨3, ![4, 1160, 256]⟩
abbrev S1160x256 : Shape := ⟨2, ![1160, 256]⟩
abbrev S1x1160x256 : Shape := ⟨3, ![1, 1160, 256]⟩

abbrev nBuf : Space → Nat
  | .hbm => 23
  | .vmem => 18
  | .smem => 0
  | _ => 0

abbrev bufTy : (tb : Table) → Fin (tcTables nBuf tb) → BufTy
  | .hbm, ⟨0, _⟩ => ⟨S4x1160x1024, .bf16⟩
  | .hbm, ⟨1, _⟩ => ⟨S4x1160x1024, .bf16⟩
  | .hbm, ⟨2, _⟩ => ⟨S1x1024x1160, .f32⟩
  | .hbm, ⟨3, _⟩ => ⟨S1x1024x1160, .f32⟩
  | .hbm, ⟨4, _⟩ => ⟨S1x1024x1160, .f32⟩
  | .hbm, ⟨5, _⟩ => ⟨S1024x1160, .f32⟩
  | .hbm, ⟨6, _⟩ => ⟨S1160x1024, .f32⟩
  | .hbm, ⟨7, _⟩ => ⟨S1024x1160, .f32⟩
  | .hbm, ⟨8, _⟩ => ⟨S1160x1024, .f32⟩
  | .hbm, ⟨9, _⟩ => ⟨S1024x1160, .f32⟩
  | .hbm, ⟨10, _⟩ => ⟨S1160x1024, .f32⟩
  | .hbm, ⟨11, _⟩ => ⟨S1160x1024, .f32⟩
  | .hbm, ⟨12, _⟩ => ⟨S1160x1024, .f32⟩
  | .hbm, ⟨13, _⟩ => ⟨S1160x1024, .f32⟩
  | .hbm, ⟨14, _⟩ => ⟨S1160x1024, .f32⟩
  | .hbm, ⟨15, _⟩ => ⟨S1024x1160, .f32⟩
  | .hbm, ⟨16, _⟩ => ⟨S1x1024x1160, .f32⟩
  | .hbm, ⟨17, _⟩ => ⟨S1024x1160, .f32⟩
  | .hbm, ⟨18, _⟩ => ⟨S1x1024x1160, .f32⟩
  | .hbm, ⟨19, _⟩ => ⟨S1024x1160, .f32⟩
  | .hbm, ⟨20, _⟩ => ⟨S1x1024x1160, .f32⟩
  | .hbm, ⟨21, _⟩ => ⟨S1024x1160, .f32⟩
  | .hbm, ⟨22, _⟩ => ⟨S1x1024x1160, .f32⟩
  | .local _ .vmem, ⟨0, _⟩ => ⟨S4x1160x256, .bf16⟩
  | .local _ .vmem, ⟨1, _⟩ => ⟨S4x1160x256, .bf16⟩
  | .local _ .vmem, ⟨2, _⟩ => ⟨S1160x256, .f32⟩
  | .local _ .vmem, ⟨3, _⟩ => ⟨S1160x256, .f32⟩
  | .local _ .vmem, ⟨4, _⟩ => ⟨S1160x256, .f32⟩
  | .local _ .vmem, ⟨5, _⟩ => ⟨S1160x256, .f32⟩
  | .local _ .vmem, ⟨6, _⟩ => ⟨S1160x256, .f32⟩
  | .local _ .vmem, ⟨7, _⟩ => ⟨S1160x256, .f32⟩
  | .local _ .vmem, ⟨8, _⟩ => ⟨S1x1160x256, .bf16⟩
  | .local _ .vmem, ⟨9, _⟩ => ⟨S1x1160x256, .bf16⟩
  | .local _ .vmem, ⟨10, _⟩ => ⟨S1160x256, .f32⟩
  | .local _ .vmem, ⟨11, _⟩ => ⟨S1160x256, .f32⟩
  | .local _ .vmem, ⟨12, _⟩ => ⟨S1160x256, .f32⟩
  | .local _ .vmem, ⟨13, _⟩ => ⟨S1160x256, .f32⟩
  | .local _ .vmem, ⟨14, _⟩ => ⟨S1160x256, .f32⟩
  | .local _ .vmem, ⟨15, _⟩ => ⟨S1160x256, .f32⟩
  | .local _ .vmem, ⟨16, _⟩ => ⟨S1160x256, .f32⟩
  | .local _ .vmem, ⟨17, _⟩ => ⟨S1160x256, .f32⟩
  | _, _ => ⟨S4x1160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1160x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1160x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1160x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1160x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1160x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1160x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1160x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1160x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1160x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S4x1160x1024 : Shape := ⟨3, ![4, 1160, 1024]⟩
abbrev S1x1024x1160 : Shape := ⟨3, ![1, 1024, 1160]⟩
abbrev S1x1160x1024 : Shape := ⟨3, ![1, 1160, 1024]⟩
abbrev S1160x1024 : Shape := ⟨2, ![1160, 1024]⟩
abbrev S3x1160x1024 : Shape := ⟨3, ![3, 1160, 1024]⟩
abbrev S_ : Shape := ⟨0, ![]⟩
abbrev S1024x1160 : Shape := ⟨2, ![1024, 1160]⟩

abbrev nBuf : Space → Nat
  | .hbm => 48
  | .vmem => 0
  | .smem => 0
  | _ => 0

abbrev bufTy : (tb : Table) → Fin (tcTables nBuf tb) → BufTy
  | .hbm, ⟨0, _⟩ => ⟨S4x1160x1024, .bf16⟩
  | .hbm, ⟨1, _⟩ => ⟨S4x1160x1024, .bf16⟩
  | .hbm, ⟨2, _⟩ => ⟨S1x1024x1160, .f32⟩
  | .hbm, ⟨3, _⟩ => ⟨S1x1024x1160, .f32⟩
  | .hbm, ⟨4, _⟩ => ⟨S1x1024x1160, .f32⟩
  | .hbm, ⟨5, _⟩ => ⟨S1x1160x1024, .bf16⟩
  | .hbm, ⟨6, _⟩ => ⟨S1160x1024, .bf16⟩
  | .hbm, ⟨7, _⟩ => ⟨S1160x1024, .f32⟩
  | .hbm, ⟨8, _⟩ => ⟨S3x1160x1024, .bf16⟩
  | .hbm, ⟨9, _⟩ => ⟨S3x1160x1024, .f32⟩
  | .hbm, ⟨10, _⟩ => ⟨S_, .f32⟩
  | .hbm, ⟨11, _⟩ => ⟨S1160x1024, .f32⟩
  | .hbm, ⟨12, _⟩ => ⟨S1160x1024, .f32⟩
  | .hbm, ⟨13, _⟩ => ⟨S1024x1160, .f32⟩
  | .hbm, ⟨14, _⟩ => ⟨S1x1024x1160, .f32⟩
  | .hbm, ⟨15, _⟩ => ⟨S_, .f32⟩
  | .hbm, ⟨16, _⟩ => ⟨S1x1024x1160, .f32⟩
  | .hbm, ⟨17, _⟩ => ⟨S1x1024x1160, .f32⟩
  | .hbm, ⟨18, _⟩ => ⟨S_, .f32⟩
  | .hbm, ⟨19, _⟩ => ⟨S1x1024x1160, .f32⟩
  | .hbm, ⟨20, _⟩ => ⟨S1x1024x1160, .f32⟩
  | .hbm, ⟨21, _⟩ => ⟨S1x1024x1160, .f32⟩
  | .hbm, ⟨22, _⟩ => ⟨S_, .f32⟩
  | .hbm, ⟨23, _⟩ => ⟨S1x1024x1160, .f32⟩
  | .hbm, ⟨24, _⟩ => ⟨S1x1024x1160, .f32⟩
  | .hbm, ⟨25, _⟩ => ⟨S1x1024x1160, .f32⟩
  | .hbm, ⟨26, _⟩ => ⟨S_, .f32⟩
  | .hbm, ⟨27, _⟩ => ⟨S1x1024x1160, .f32⟩
  | .hbm, ⟨28, _⟩ => ⟨S1x1024x1160, .f32⟩
  | .hbm, ⟨29, _⟩ => ⟨S1x1024x1160, .f32⟩
  | .hbm, ⟨30, _⟩ => ⟨S_, .f32⟩
  | .hbm, ⟨31, _⟩ => ⟨S1x1024x1160, .f32⟩
  | .hbm, ⟨32, _⟩ => ⟨S1x1024x1160, .f32⟩
  | .hbm, ⟨33, _⟩ => ⟨S_, .f32⟩
  | .hbm, ⟨34, _⟩ => ⟨S1x1024x1160, .f32⟩
  | .hbm, ⟨35, _⟩ => ⟨S1x1024x1160, .f32⟩
  | .hbm, ⟨36, _⟩ => ⟨S1x1024x1160, .f32⟩
  | .hbm, ⟨37, _⟩ => ⟨S_, .f32⟩
  | .hbm, ⟨38, _⟩ => ⟨S1x1024x1160, .f32⟩
  | .hbm, ⟨39, _⟩ => ⟨S1x1024x1160, .f32⟩
  | .hbm, ⟨40, _⟩ => ⟨S1x1024x1160, .f32⟩
  | .hbm, ⟨41, _⟩ => ⟨S_, .f32⟩
  | .hbm, ⟨42, _⟩ => ⟨S1x1024x1160, .f32⟩
  | .hbm, ⟨43, _⟩ => ⟨S1x1024x1160, .f32⟩
  | .hbm, ⟨44, _⟩ => ⟨S1x1024x1160, .f32⟩
  | .hbm, ⟨45, _⟩ => ⟨S_, .f32⟩
  | .hbm, ⟨46, _⟩ => ⟨S1x1024x1160, .f32⟩
  | .hbm, ⟨47, _⟩ => ⟨S1x1024x1160, .f32⟩
  | _, _ => ⟨S4x1160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Proof.Columns.lean ====
/- The order of the projection's columns. The kernels keep the 9280 columns of the input projection in another order,
   behind which 448 columns of zeros stand: `src` says which column of the projection stands at a place, `dst` at which
   place a column of the projection stands. -/
module

public import Mathlib.Data.EReal.Operations
public import Mathlib.Algebra.BigOperators.Fin
public import Idealize.ShloMosaic.Lib.Pointwise.IndexVar

@[expose] public section

set_option maxRecDepth 16384

namespace Cert.Columns

/-- The column of the projection that stands at place `k`. -/
def srcN (k : ℕ) : ℕ :=
  if k < 4096 then k else if k < 6144 then k + 32 else if k < 8192 then k + 1088 else if k < 9216 then k - 2016
  else if k < 9248 then k - 5120 else k - 2048

/-- The place at which column `n` of the projection stands. -/
def dstN (n : ℕ) : ℕ :=
  if n < 4096 then n else if n < 4128 then n + 5120 else if n < 6176 then n - 32 else if n < 7200 then n + 2016
  else if n < 7232 then n + 2048 else n - 1088

/-- The source of a packed column, written out over the five pieces. -/
theorem srcN_cases (k : ℕ) : (k < 4096 ∧ srcN k = k) ∨ (4096 ≤ k ∧ k < 6144 ∧ srcN k = k + 32)
    ∨ (6144 ≤ k ∧ k < 8192 ∧ srcN k = k + 1088) ∨ (8192 ≤ k ∧ k < 9216 ∧ srcN k = k - 2016)
    ∨ (9216 ≤ k ∧ k < 9248 ∧ srcN k = k - 5120) ∨ (9248 ≤ k ∧ srcN k = k - 2048) := by
  unfold srcN; repeat' split
  all_goals omega

/-- The packed place of a column, written out over its pieces. -/
theorem dstN_cases (n : ℕ) : (n < 4096 ∧ dstN n = n) ∨ (4096 ≤ n ∧ n < 4128 ∧ dstN n = n + 5120)
    ∨ (4128 ≤ n ∧ n < 6176 ∧ dstN n = n - 32) ∨ (6176 ≤ n ∧ n < 7200 ∧ dstN n = n + 2016)
    ∨ (7200 ≤ n ∧ n < 7232 ∧ dstN n = n + 2048) ∨ (7232 ≤ n ∧ dstN n = n - 1088) := by
  unfold dstN; repeat' split
  all_goals omega

/-- A packed column below 9280 comes from a column. -/
theorem srcN_lt {k : ℕ} (h : k < 9280) : srcN k < 9280 := by have := srcN_cases k; omega

/-- A column is packed below 9280. -/
theorem dstN_lt {n : ℕ} (h : n < 9280) : dstN n < 9280 := by have := dstN_cases n; omega

/-- Packing a column and looking up its source gives the column. -/
theorem src_dstN {n : ℕ} (h : n < 9280) : srcN (dstN n) = n := by
  have := dstN_cases n; have := srcN_cases (dstN n); omega

/-- Looking up the source of a packed column and packing it gives the packed column. -/
theorem dst_srcN {k : ℕ} (h : k < 9280) : dstN (srcN k) = k := by
  have := srcN_cases k; have := dstN_cases (srcN k); omega

/-- The two orders are one another's inverse. -/
def order : Fin 9280 ≃ Fin 9280 where
  toFun k := ⟨srcN k, srcN_lt k.isLt⟩
  invFun n := ⟨dstN n, dstN_lt n.isLt⟩
  left_inv k := Fin.ext (dst_srcN k.isLt)
  right_inv n := Fin.ext (src_dstN n.isLt)

/-- A sum over the 9728 places of what the projection's columns give, zero at the last 448, is the sum over the columns. -/
theorem sum_places (g : Fin 9280 → EReal) :
    (∑ k : Fin 9728, if h : k.val < 9280 then g (order ⟨k, h⟩) else 0) = ∑ n : Fin 9280, g n := by
  rw [← Equiv.sum_comp order g]
  rw [Fin.sum_univ_add (a := 9280) (b := 448)]
  have hr : ∀ j : Fin 448, ¬ (Fin.natAdd 9280 j : Fin (9280 + 448)).val < 9280 := fun j => by simp
  have hl : ∀ j : Fin 9280, (Fin.castAdd 448 j : Fin (9280 + 448)).val < 9280 := fun j => by simp
  simp only [hr, hl, dif_pos, dif_neg, not_false_eq_true, Finset.sum_const_zero, add_zero]
  rfl

/-! ## The reordering as a program does it: slices put one behind the other -/

open Idealize.ShloMosaic

/-- The shape of a matrix. -/
abbrev Mat (a b : ℕ) : Shape := ⟨2, ![a, b]⟩

/-- `n` rows from row `o` on. -/
theorem rows_slice {a b : ℕ} (o n : ℕ) (h : o + n ≤ a) : (Mat a b).Slices ![o, 0] (Mat n b) :=
  ⟨rfl, fun q => by fin_cases q <;> simp <;> omega⟩

/-- The rows `[o, o + n)` of a matrix. -/
abbrev rows {α : Type} {a b : ℕ} (o n : ℕ) (h : o + n ≤ a) (x : (Mat a b).Idx → α) : (Mat n b).Idx → α :=
  extractStridedSlice (Mat n b) ![o, 0] x (rows_slice o n h)

/-- The rows of `x` in the kernels' order, behind them the rows of `z`. -/
def places {α : Type} {C : ℕ} (x : (Mat 9280 C).Idx → α) (z : (Mat 448 C).Idx → α)
    (h : Shape.Concatenates [Mat 4096 C, Mat 2048 C, Mat 2048 C, Mat 1024 C, Mat 32 C, Mat 32 C, Mat 448 C] (Mat 9728 C) 0) :
    (Mat 9728 C).Idx → α :=
  concatenate (Mat 9728 C) 0
    [⟨Mat 4096 C, rows 0 4096 (by omega) x⟩, ⟨Mat 2048 C, rows 4128 2048 (by omega) x⟩,
      ⟨Mat 2048 C, rows 7232 2048 (by omega) x⟩, ⟨Mat 1024 C, rows 6176 1024 (by omega) x⟩,
      ⟨Mat 32 C, rows 4096 32 (by omega) x⟩, ⟨Mat 32 C, rows 7200 32 (by omega) x⟩, ⟨Mat 448 C, z⟩] h

/-- The rows of `x`, taken back out of the kernels' order. -/
def unplaced {α : Type} {C : ℕ} (x : (Mat 9728 C).Idx → α)
    (h : Shape.Concatenates [Mat 4096 C, Mat 32 C, Mat 2048 C, Mat 1024 C, Mat 32 C, Mat 2048 C] (Mat 9280 C) 0) :
    (Mat 9280 C).Idx → α :=
  concatenate (Mat 9280 C) 0
    [⟨Mat 4096 C, rows 0 4096 (by omega) x⟩, ⟨Mat 32 C, rows 9216 32 (by omega) x⟩,
      ⟨Mat 2048 C, rows 4096 2048 (by omega) x⟩, ⟨Mat 1024 C, rows 8192 1024 (by omega) x⟩,
      ⟨Mat 32 C, rows 9248 32 (by omega) x⟩, ⟨Mat 2048 C, rows 6144 2048 (by omega) x⟩] h

/-- At place `k < 9280` stands the row `srcN k`, behind them `z`. -/
theorem places_apply {α : Type} {C : ℕ} (x : (Mat 9280 C).Idx → α) (z : (Mat 448 C).Idx → α) (h) (k : Fin 9728) (t : Fin C) :
    places x z h (ix2 k t) = if hk : k.val < 9280 then x (ix2 (order ⟨k, hk⟩) t)
      else z (ix2 ⟨k.val - 9280, by omega⟩ t) := by
  have key : ∀ e (he : e < 9280) (hk : k.val < 9280), e = srcN k → x (ix2 ⟨e, he⟩ t) = x (ix2 (order ⟨k, hk⟩) t) := by
    rintro _ _ _ rfl; rfl
  have keyz : ∀ e (he : e < 448), e = k.val - 9280 → z (ix2 ⟨e, he⟩ t) = z (ix2 ⟨k.val - 9280, by omega⟩ t) :=
    fun e he h => congrArg (fun q => z (ix2 q t)) (Fin.ext h)
  have hlt := k.isLt
  have hc := srcN_cases k.val
  unfold places
  pointwise
  by_cases hk : k.val < 9280
  · rw [dif_pos hk]
    repeat' split
    all_goals first
      | exact key _ _ hk (by omega)
      | (exfalso; omega)
  · rw [dif_neg hk]
    repeat' split
    all_goals first
      | (exfalso; omega)
      | exact keyz _ _ (by omega)

/-- Row `n` stands at place `dstN n`. -/
theorem unplaced_apply {α : Type} {C : ℕ} (x : (Mat 9728 C).Idx → α) (h) (n : Fin 9280) (t : Fin C) :
    unplaced x h (ix2 n t) = x (ix2 ((order.symm n).castLE (by omega)) t) := by
  have key : ∀ e (he : e < 9728), e = dstN n → x (ix2 ⟨e, he⟩ t) = x (ix2 ((order.symm n).castLE (by omega)) t) := by
    rintro _ _ rfl; rfl
  have hlt := n.isLt
  have hc := dstN_cases n.val
  unfold unplaced
  pointwise
  repeat' split
  all_goals exact key _ _ (by omega)

/-- The padded array at the place of an entry is that entry. -/
theorem places_place {α : Type} {C : ℕ} (x : (Mat 9280 C).Idx → α) (z : (Mat 448 C).Idx → α) (h) (n : Fin 9280) (t : Fin C) :
    places x z h (ix2 ((order.symm n).castLE (by omega)) t) = x (ix2 n t) :=
  (places_apply x z h _ t).trans ((dif_pos (order.symm n).isLt).trans
    (congrArg (fun q => x (ix2 q t)) (order.apply_symm_apply n)))

end Cert.Columns
-- ==== Proof.Dh.lean ====
module

public import proofs.«01_k».proof.Proof.Gen.Kernel4Ideal.Frame
public import proofs.«01_k».proof.Proof.Columns
public import Idealize.ShloMosaic.Lib.Pointwise
public import Idealize.ShloMosaic.Lib.Pipeline.ValueKit

/-! # The gradient of the normed input: the product of the projections' gradient with the weight, over packed columns -/

@[expose] public section

set_option maxRecDepth 16384

noncomputable section

namespace Cert.Kernel4Ideal.Dh

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The weight of the input projection. -/
abbrev W (c : Dev nD) : FVec Ideal S1024x9280 .f32 := m ((c : Thread nD τ).loc main_arg0)
/-- The gradient of the projections. -/
abbrev D (c : Dev nD) : FVec Ideal S2048x9280 .f32 := m ((c : Thread nD τ).loc main_arg1)

/-- The first factor: the projections' gradient, its columns packed. -/
theorem V_v10 (c : Dev nD) : V m c main_v10 = (truncf .bf16 (transpose S2048x9728 [1, 0] (Columns.places
      (transpose S9280x2048 [1, 0] (D m c) transposes_S2048x9280_S9280x2048_1_0)
      (broadcastInDim S448x2048 ![] bcast_S_S448x2048 (constant S_ .f32 0x00000000#32))
      concatenates_S4096x2048_S2048x2048_S2048x2048_S1024x2048_S32x2048_S32x2048_S448x2048_S9728x2048_d0)
      transposes_S9728x2048_S2048x9728_1_0) bitsLt_bf16_f32 : FVec Ideal S2048x9728 .bf16) := by
  show StableHlo.after hostOps0 (fun b => m (c, b)) (Proc.devRef .tc main_v10) = _
  after_results
  rfl

/-- The second factor: the weight, its columns packed. -/
theorem V_v20 (c : Dev nD) : V m c main_v20 = (Columns.places
      (truncf .bf16 (transpose S9280x1024 [1, 0] (W m c) transposes_S1024x9280_S9280x1024_1_0) bitsLt_bf16_f32)
      (broadcastInDim S448x1024 ![] bcast_S_S448x1024 (constant S_ .bf16 0x0000#16))
      concatenates_S4096x1024_S2048x1024_S2048x1024_S1024x1024_S32x1024_S32x1024_S448x1024_S9728x1024_d0
       : FVec Ideal S9728x1024 .bf16) := by
  show StableHlo.after hostOps0 (fun b => m (c, b)) (Proc.devRef .tc main_v20) = _
  after_results
  rfl

/-- The two factors when the kernel is entered. -/
abbrev left (c : Dev nD) : S2048x9728.Idx → EReal := V m c main_v10
/-- The second factor when the kernel is entered. -/
abbrev right (c : Dev nD) : S9728x1024.Idx → EReal := V m c main_v20

/-- The first factor entry by entry. -/
theorem V_v10_apply (c : Dev nD) (t : Fin 2048) (k : Fin 9728) : left m c (ix2 t k) =
    if h : k.val < 9280 then D m c (ix2 t (Columns.order ⟨k, h⟩)) else (0 : EReal) := by
  unfold left; rw [V_v10]
  pointwise
  rw [Columns.places_apply]
  pointwise

/-- The second factor entry by entry. -/
theorem V_v20_apply (c : Dev nD) (k : Fin 9728) (j : Fin 1024) : right m c (ix2 k j) =
    if h : k.val < 9280 then W m c (ix2 j (Columns.order ⟨k, h⟩)) else (0 : EReal) := by
  unfold right; rw [V_v20]
  rw [Columns.places_apply]
  pointwise

/-- The blocks that each point works on. -/
theorem idx (t : Fin cfg0.N) : win0_0.index t = ![t.val, 0] ∧ win0_1.index t = ![0, 0] ∧ win0_2.index t = ![t.val, 0] := by
  revert t; decide +kernel

/-- The result's entry: a row of the reordered gradient against a column of the reordered weight. -/
def G (c : Dev nD) : S2048x1024.Idx → EReal := fun i => ∑ k : Fin 9728,
  left m c (ix2 (i 0) k) * right m c (ix2 k (i 1))

/-- What the kernel leaves in its result: the product. -/
theorem arr_eq (c : Dev nD) : (dats m 0 c).arrAt 2 (cfgs 0).N = G m c := by
  refine (dats m 0 c).arrAt_eq_of_covers 2 _ (by decide +kernel) fun t hf y => ?_
  blk_simp
  rw [after0_2]
  frame_out
  unfold k0_pay1 G
  pointwise
  blk_point [iblk, idx t]

/-- Taken over the packed columns or over the columns, the sum is the same. -/
theorem G_eq (c : Dev nD) (i : S2048x1024.Idx) :
    G m c i = ∑ n : Fin 9280, D m c (ix2 (i 0) n) * W m c (ix2 (i 1) n) := by
  rw [← Columns.sum_places]
  refine Finset.sum_congr rfl fun k _ => ?_
  refine (congrArg₂ (· * ·) (V_v10_apply m c (i 0) k) (V_v20_apply m c k (i 1))).trans ?_
  split
  · rfl
  · exact zero_mul _

/-- The run of the program: the result is the gradient of the product. -/
theorem run : θ_run defs (onTc (τ := τ) (main (F := Ideal))) ⟨m, fun _ => 0, ρ⟩ fun r => ∀ c : Dev nD,
    r.2.mem ((c : Thread nD τ).loc main_v21) = (fun i : S2048x1024.Idx => ∑ n : Fin 9280, D m c (ix2 (i 0) n) * W m c (ix2 (i 1) n)) :=
  (θ_run defs _ _).mono (fun r h c => ((h c).1 2).trans ((arr_eq m c).trans (funext (G_eq m c)))) (run_main m ρ)

end Cert.Kernel4Ideal.Dh
-- ==== Proof.Dw.lean ====
module

public import proofs.«01_k».proof.Proof.Gen.Kernel3Ideal.Frame
public import proofs.«01_k».proof.Proof.Columns
public import Idealize.ShloMosaic.Lib.Pointwise
public import Idealize.ShloMosaic.Lib.Pipeline.ValueKit

/-! # The gradient of the input projection's weight, written transposed in blocks of packed columns -/

@[expose] public section

set_option maxRecDepth 16384

noncomputable section

namespace Cert.Kernel3Ideal.Dw

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two arguments: the projection's input and the gradient of its output. -/
abbrev H (c : Dev nD) : FVec Ideal S2048x1024 .f32 := m ((c : Thread nD τ).loc main_arg0)
/-- The gradient of the projections. -/
abbrev D (c : Dev nD) : FVec Ideal S2048x9280 .f32 := m ((c : Thread nD τ).loc main_arg1)

/-- The two factors when the kernel is entered. -/
abbrev left (c : Dev nD) : S1024x2048.Idx → EReal := V m c main_v12
/-- The second factor when the kernel is entered. -/
abbrev right (c : Dev nD) : S2048x9728.Idx → EReal := V m c main_v10

/-- The first factor entry by entry. -/
theorem left_apply (c : Dev nD) (j : Fin 1024) (t : Fin 2048) : left m c (ix2 j t) = H m c (ix2 t j) := by
  show StableHlo.after hostOps0 (fun b => m (c, b)) (Proc.devRef .tc main_v12) (ix2 j t) = _
  after_results
  pointwise

/-- The second factor: its columns packed. -/
theorem right_eq (c : Dev nD) : V m c main_v10 = (truncf .bf16 (transpose S2048x9728 [1, 0] (Columns.places
      (transpose S9280x2048 [1, 0] (D m c) transposes_S2048x9280_S9280x2048_1_0)
      (broadcastInDim S448x2048 ![] bcast_S_S448x2048 (constant S_ .f32 0x00000000#32))
      concatenates_S4096x2048_S2048x2048_S2048x2048_S1024x2048_S32x2048_S32x2048_S448x2048_S9728x2048_d0)
      transposes_S9728x2048_S2048x9728_1_0) bitsLt_bf16_f32 : FVec Ideal S2048x9728 .bf16) := by
  show StableHlo.after hostOps0 (fun b => m (c, b)) (Proc.devRef .tc main_v10) = _
  after_results
  rfl

/-- The second factor entry by entry. -/
theorem right_apply (c : Dev nD) (t : Fin 2048) (n : Fin 9280) :
    right m c (ix2 t ((Columns.order.symm n).castLE (by omega))) = D m c (ix2 t n) := by
  unfold right; rw [right_eq]
  pointwise
  exact (Columns.places_place _ _ _ n t).trans (by pointwise)

/-- The blocks that each point works on. -/
theorem idx (t : Fin cfg0.N) : win0_0.index t = ![0, 0] ∧ win0_1.index t = ![0, t.val] ∧ win0_2.index t = ![t.val, 0] := by
  revert t; decide +kernel

/-- What the kernel leaves: the reordered gradient, transposed. -/
def G (c : Dev nD) : S9728x1024.Idx → EReal := fun i => ∑ t : Fin 2048, left m c (ix2 (i 1) t) * right m c (ix2 t (i 0))

/-- What the kernel leaves in its result: the product. -/
theorem arr_eq (c : Dev nD) : (dats m 0 c).arrAt 2 (cfgs 0).N = G m c := by
  refine (dats m 0 c).arrAt_eq_of_covers 2 _ (by decide +kernel) fun t hf y => ?_
  blk_simp
  rw [after0_2]
  frame_out
  unfold k0_pay1 G
  pointwise
  blk_point [iblk, idx t]

/-- The lines after the kernel put the columns back into their order. -/
theorem tail_eq (c : Dev nD) : Pipeline.afterTail₀ cfgs (dats m) 0 (V0 m) [hostOps1] c main_v22
    = (transpose S1024x9280 [1, 0] (extf .f32 (Columns.unplaced (G m c)
      concatenates_S4096x1024_S32x1024_S2048x1024_S1024x1024_S32x1024_S2048x1024_S9280x1024_d0 : FVec Ideal S9280x1024 .bf16) bitsLt_bf16_f32)
      transposes_S9280x1024_S1024x9280_1_0 : FVec Ideal S1024x9280 .f32) := by
  have hw := Pipeline.withArrays_arr (cfgs 0).spec (by decide) c (V0 m c) (fun w => (dats m 0 c).arrAt w (cfgs 0).N) 2
  rw [arr_eq m c] at hw
  show StableHlo.after hostOps1 (Pipeline.withArrays (cfgs 0).spec c (V0 m c) fun w => (dats m 0 c).arrAt w (cfgs 0).N)
    (Proc.devRef .tc main_v22) = _
  generalize Pipeline.withArrays (cfgs 0).spec c (V0 m c) (fun w => (dats m 0 c).arrAt w (cfgs 0).N) = A at hw ⊢
  after_results
  rw [← hw]
  rfl

/-- The run of the program: the result is the gradient of the product in its weight. -/
theorem run : θ_run defs (onTc (τ := τ) (main (F := Ideal))) ⟨m, fun _ => 0, ρ⟩ fun r => ∀ c : Dev nD,
    r.2.mem ((c : Thread nD τ).loc main_v22)
      = (fun i : S1024x9280.Idx => ∑ t : Fin 2048, H m c (ix2 t (i 0)) * D m c (ix2 t (i 1))) := by
  refine (θ_run defs _ _).mono (fun r h c => ?_) (run_main m ρ)
  refine ((h c).2 main_v22 (Pipeline.mem_restRefs_of main_v22 (by decide) (by decide))).trans ((tail_eq m c).trans ?_)
  funext i
  pointwise
  refine (Columns.unplaced_apply (G m c) _ (i 1) (i 0)).trans ?_
  unfold G
  refine Finset.sum_congr rfl fun t _ => congrArg₂ (· * ·) (left_apply m c _ t) (right_apply m c t _)

end Cert.Kernel3Ideal.Dw
-- ==== Proof.Proj.lean ====
module

public import proofs.«01_k».proof.Proof.Gen.Kernel6Ideal.Frame
public import proofs.«01_k».proof.Proof.Columns
public import Idealize.ShloMosaic.Lib.Pointwise
public import Idealize.ShloMosaic.Lib.Pipeline.ValueKit

/-! # The input projection, over packed columns -/

@[expose] public section

set_option maxRecDepth 16384

noncomputable section

namespace Cert.Kernel6Ideal.Proj

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two arguments: the projection's input and its weight. -/
abbrev H (c : Dev nD) : FVec Ideal S2048x1024 .f32 := m ((c : Thread nD τ).loc main_arg0)
/-- The weight of the input projection. -/
abbrev W (c : Dev nD) : FVec Ideal S1024x9280 .f32 := m ((c : Thread nD τ).loc main_arg1)

/-- The two factors when the kernel is entered. -/
abbrev left (c : Dev nD) : S2048x1024.Idx → EReal := V m c main_v0
/-- The second factor when the kernel is entered. -/
abbrev right (c : Dev nD) : S9728x1024.Idx → EReal := V m c main_v10

/-- The first factor entry by entry. -/
theorem left_apply (c : Dev nD) (t : Fin 2048) (j : Fin 1024) : left m c (ix2 t j) = H m c (ix2 t j) := by
  show StableHlo.after hostOps0 (fun b => m (c, b)) (Proc.devRef .tc main_v0) (ix2 t j) = _
  after_results
  pointwise

/-- The second factor: its columns packed. -/
theorem right_eq (c : Dev nD) : V m c main_v10 = (Columns.places
      (truncf .bf16 (transpose S9280x1024 [1, 0] (W m c) transposes_S1024x9280_S9280x1024_1_0) bitsLt_bf16_f32 : FVec Ideal S9280x1024 .bf16)
      (broadcastInDim S448x1024 ![] bcast_S_S448x1024 (constant S_ .bf16 0x0000#16))
      concatenates_S4096x1024_S2048x1024_S2048x1024_S1024x1024_S32x1024_S32x1024_S448x1024_S9728x1024_d0
      : FVec Ideal S9728x1024 .bf16) := by
  show StableHlo.after hostOps0 (fun b => m (c, b)) (Proc.devRef .tc main_v10) = _
  after_results
  rfl

/-- The second factor entry by entry. -/
theorem right_apply (c : Dev nD) (n : Fin 9280) (j : Fin 1024) :
    right m c (ix2 ((Columns.order.symm n).castLE (by omega)) j) = W m c (ix2 j n) := by
  unfold right; rw [right_eq]
  exact (Columns.places_place _ _ _ n j).trans (by pointwise)

/-- The blocks that each point works on. -/
theorem idx (t : Fin cfg0.N) : win0_0.index t = ![0, 0] ∧ win0_1.index t = ![t.val, 0] ∧ win0_2.index t = ![0, t.val] := by
  revert t; decide +kernel

/-- What the kernel leaves: the product with its columns in the kernel's order. -/
def G (c : Dev nD) : S2048x9728.Idx → EReal := fun i => ∑ j : Fin 1024, left m c (ix2 (i 0) j) * right m c (ix2 (i 1) j)

/-- What the kernel leaves in its result: the product. -/
theorem arr_eq (c : Dev nD) : (dats m 0 c).arrAt 2 (cfgs 0).N = G m c := by
  refine (dats m 0 c).arrAt_eq_of_covers 2 _ (by decide +kernel) fun t hf y => ?_
  blk_simp
  rw [after0_2]
  frame_out
  unfold k0_pay1 G
  pointwise
  blk_point [iblk, idx t]

/-- The lines after the kernel put the columns back into their order. -/
theorem tail_eq (c : Dev nD) : Pipeline.afterTail₀ cfgs (dats m) 0 (V0 m) [hostOps1] c main_v20
    = (transpose S2048x9280 [1, 0] (Columns.unplaced (transpose S9728x2048 [1, 0] (G m c : FVec Ideal S2048x9728 .f32) transposes_S2048x9728_S9728x2048_1_0)
      concatenates_S4096x2048_S32x2048_S2048x2048_S1024x2048_S32x2048_S2048x2048_S9280x2048_d0)
      transposes_S9280x2048_S2048x9280_1_0 : FVec Ideal S2048x9280 .f32) := by
  have hw := Pipeline.withArrays_arr (cfgs 0).spec (by decide) c (V0 m c) (fun w => (dats m 0 c).arrAt w (cfgs 0).N) 2
  rw [arr_eq m c] at hw
  show StableHlo.after hostOps1 (Pipeline.withArrays (cfgs 0).spec c (V0 m c) fun w => (dats m 0 c).arrAt w (cfgs 0).N)
    (Proc.devRef .tc main_v20) = _
  generalize Pipeline.withArrays (cfgs 0).spec c (V0 m c) (fun w => (dats m 0 c).arrAt w (cfgs 0).N) = A at hw ⊢
  after_results
  rw [← hw]
  rfl

/-- The run of the program: the result is the product of the two arguments. -/
theorem run : θ_run defs (onTc (τ := τ) (main (F := Ideal))) ⟨m, fun _ => 0, ρ⟩ fun r => ∀ c : Dev nD,
    r.2.mem ((c : Thread nD τ).loc main_v20)
      = (fun i : S2048x9280.Idx => ∑ j : Fin 1024, H m c (ix2 (i 0) j) * W m c (ix2 j (i 1))) := by
  refine (θ_run defs _ _).mono (fun r h c => ?_) (run_main m ρ)
  refine ((h c).2 main_v20 (Pipeline.mem_restRefs_of main_v20 (by decide) (by decide))).trans ((tail_eq m c).trans ?_)
  funext i
  pointwise
  refine (Columns.unplaced_apply _ _ (i 1) (i 0)).trans ?_
  pointwise
  unfold G
  refine Finset.sum_congr rfl fun j _ => congrArg₂ (· * ·) (left_apply m c _ j) (right_apply m c _ j)

end Cert.Kernel6Ideal.Proj
-- ==== Proof.Products.lean ====
module

public import proofs.«01_k».proof.Defs
public import proofs.«01_k».proof.Proof.Dh
public import proofs.«01_k».proof.Proof.Dw
public import proofs.«01_k».proof.Proof.Proj
public import proofs.«01_k».proof.Proof.Gen.Reference3Ideal.Run
public import proofs.«01_k».proof.Proof.Gen.Reference4Ideal.Run
public import proofs.«01_k».proof.Proof.Gen.Reference6Ideal.Run

@[expose] public section

set_option maxRecDepth 16384

noncomputable section

/-! The three products with the input projection's weight: the product itself, and its gradients in either factor. The
kernels' sums are those of `Dh`, `Dw` and `Proj`; here they meet the sums the host product takes. -/

namespace Cert.Products

open Idealize.ShloMosaic Idealize.ShloMosaic.TcCoe Idealize.SL.Sem

/-- The gradient of the projection in its input, a sum over the 9280 columns. -/
theorem dh_reference (d : FVec Ideal Reference4Ideal.S2048x9280 .f32) (w : FVec Ideal Reference4Ideal.S1024x9280 .f32) :
    (Host.dotGeneral Reference4Ideal.dot_S2048x9280_S1024x9280_S2048x1024_1_1_0_0_n_n none d w : FVec Ideal Reference4Ideal.S2048x1024 .f32)
      = fun i => ∑ n : Fin 9280, (d (ix2 (i 0) n) : EReal) * w (ix2 (i 1) n) := by
  funext i
  pointwise

/-- The gradient of the projection in its weight, a sum over the 2048 tokens. -/
theorem dw_reference (d : FVec Ideal Reference3Ideal.S2048x9280 .f32) (h : FVec Ideal Reference3Ideal.S2048x1024 .f32) :
    (transpose Reference3Ideal.S1024x9280 [1, 0] (Host.dotGeneral Reference3Ideal.dot_S2048x9280_S2048x1024_S9280x1024_0_0_1_1_n_n none d h)
      Reference3Ideal.Gen.facts.transposes_S9280x1024_S1024x9280_1_0 : FVec Ideal Reference3Ideal.S1024x9280 .f32)
      = fun i => ∑ t : Fin 2048, (h (ix2 t (i 0)) : EReal) * d (ix2 t (i 1)) := by
  funext i
  pointwise
  exact Finset.sum_congr rfl fun t _ => mul_comm _ _

/-- The projection, a sum over the 1024 features. -/
theorem proj_reference (h : FVec Ideal Reference6Ideal.S2048x1024 .f32) (w : FVec Ideal Reference6Ideal.S1024x9280 .f32) :
    (Host.dotGeneral Reference6Ideal.dot_S2048x1024_S1024x9280_S2048x9280_1_0_0_1_n_n none h w : FVec Ideal Reference6Ideal.S2048x9280 .f32)
      = fun i => ∑ j : Fin 1024, (h (ix2 (i 0) j) : EReal) * w (ix2 j (i 1)) := by
  funext i
  pointwise

/-- The gradient in the projection's weight: kernel and reference end with the same array. -/
theorem dw : algebraic_Kernel3Ideal_Reference3Ideal (hKernel3Ideal := Kernel3Ideal.Gen.facts) (hReference3Ideal := Reference3Ideal.Gen.facts) := by
  intro m g m' g' _ hagree
  refine ⟨_, (θ_run _ _ _).mono (fun r h c => ⟨h.1 c, h.2 c⟩) (θ_run_and (Kernel3Ideal.Dw.run m g) (Kernel3Ideal.Gen.unchanged m g)),
    (θ_run _ _ _).mono (fun r h c => ⟨(h c).1.trans ((dw_reference _ _).trans ?_), (h c).2⟩) (Reference3Ideal.Value.run m' g')⟩
  rw [(hagree c).1, (hagree c).2]

/-- The gradient in the projection's input: kernel and reference end with the same array. -/
theorem dh : algebraic_Kernel4Ideal_Reference4Ideal (hKernel4Ideal := Kernel4Ideal.Gen.facts) (hReference4Ideal := Reference4Ideal.Gen.facts) := by
  intro m g m' g' _ hagree
  refine ⟨_, (θ_run _ _ _).mono (fun r h c => ⟨h.1 c, h.2 c⟩) (θ_run_and (Kernel4Ideal.Dh.run m g) (Kernel4Ideal.Gen.unchanged m g)),
    (θ_run _ _ _).mono (fun r h c => ⟨(h c).1.trans ((dh_reference _ _).trans ?_), (h c).2⟩) (Reference4Ideal.Value.run m' g')⟩
  rw [(hagree c).1, (hagree c).2]

/-- The projection: kernel and reference end with the same array. -/
theorem proj : algebraic_Kernel6Ideal_Reference6Ideal (hKernel6Ideal := Kernel6Ideal.Gen.facts) (hReference6Ideal := Reference6Ideal.Gen.facts) := by
  intro m g m' g' _ hagree
  refine ⟨_, (θ_run _ _ _).mono (fun r h c => ⟨h.1 c, h.2 c⟩) (θ_run_and (Kernel6Ideal.Proj.run m g) (Kernel6Ideal.Gen.unchanged m g)),
    (θ_run _ _ _).mono (fun r h c => ⟨(h c).1.trans ((proj_reference _ _).trans ?_), (h c).2⟩) (Reference6Ideal.Value.run m' g')⟩
  rw [(hagree c).1, (hagree c).2]

end Cert.Products
-- ==== Proof.Roots.lean ====
module

public import Idealize.ShloMosaic.PureOps.Ideal
public import Mathlib.Data.EReal.Inv

@[expose] public section

noncomputable section

/-! Facts about extended reals: the constants of the programs, sums doubled, and the reciprocal root of a positive number. -/

namespace Cert.Roots

open Idealize.ShloMosaic

/-- The number of features, as the programs write it. -/
theorem ofBits_1024 : Ideal.ofBits .f32 0x44800000#32 = ((1024 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- A half. -/
theorem ofBits_half : Ideal.ofBits .f32 0x3F000000#32 = ((1 / 2 : ℝ) : EReal) := by
  simp [Ideal.ofBits, Ideal.ieee, -EReal.coe_mul]; norm_num

/-- The reciprocal of the number of features, which is a power of two. -/
theorem ofBits_inv_1024 : Ideal.ofBits .f32 0x3A800000#32 = ((1 / 1024 : ℝ) : EReal) := by
  simp [Ideal.ofBits, Ideal.ieee, -EReal.coe_mul]; norm_num

/-- Half the mean of the squares has, as its derivative, the mean of the numbers. -/
theorem half_double_mean (e : EReal) :
    Ideal.div (Ideal.ofBits .f32 0x3F000000#32) (Ideal.ofBits .f32 0x44800000#32) * (Ideal.ofBits .f32 0x40000000#32 * e)
      = e * Ideal.ofBits .f32 0x3A800000#32 := by
  rw [ofBits_half, ofBits_1024, ofBits_two, ofBits_inv_1024, Ideal.div_coe (by norm_num), ← mul_assoc, mul_comm e,
    ← EReal.coe_mul, ← EReal.coe_mul]
  norm_num

/-- Minus a half. -/
theorem ofBits_neg_half : Ideal.ofBits .f32 0xBF000000#32 = ((-1 / 2 : ℝ) : EReal) := by
  simp [Ideal.ofBits, Ideal.ieee, -EReal.coe_mul]; norm_num

/-- The small number that keeps the root's argument away from zero is positive. -/
theorem eps_pos : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A number added to itself is its double, at the infinities too. -/
theorem add_self (z : EReal) : z + z = ((2 : ℝ) : EReal) * z := by
  induction z with
  | bot => rw [EReal.coe_mul_bot_of_pos (by norm_num)]; rfl
  | top => rw [EReal.coe_mul_top_of_pos (by norm_num)]; rfl
  | coe z => exact_mod_cast (two_mul z).symm

/-- A square is not negative. -/
theorem mul_self_nonneg (z : EReal) : 0 ≤ z * z := by
  induction z with
  | bot => simp
  | top => simp
  | coe z => exact_mod_cast _root_.mul_self_nonneg z

/-- The mean square of a row and the small number, together: positive, whatever the row's length. -/
theorem square_pos_of {n : ℕ} (x : Fin n → EReal) {d : ℝ} (hd : 0 < d) :
    0 < Ideal.div (∑ k, x k * x k) (d : EReal) + Ideal.ofBits .f32 0x358637BD#32 := by
  obtain ⟨e, he, h⟩ := eps_pos
  rw [h, Ideal.div_coe hd.ne']
  have h0 : 0 ≤ (∑ k, x k * x k) * ((1 / d : ℝ) : EReal) :=
    mul_nonneg (Finset.sum_nonneg fun k _ => mul_self_nonneg _) (by exact_mod_cast (one_div_pos.mpr hd).le)
  exact lt_of_lt_of_le (by exact_mod_cast he) (le_add_of_nonneg_left h0)

/-- The same over the layer's features. -/
theorem square_pos {n : ℕ} (x : Fin n → EReal) :
    0 < Ideal.div (∑ k, x k * x k) (Ideal.ofBits .f32 0x44800000#32) + Ideal.ofBits .f32 0x358637BD#32 := by
  rw [ofBits_1024]
  exact square_pos_of x (by norm_num)

/-- The derivative of the reciprocal root is a cube of it. -/
theorem rsqrt_div (s : EReal) (hs : 0 < s) : Ideal.div (Ideal.rsqrt s) s = Ideal.rsqrt s * Ideal.rsqrt s * Ideal.rsqrt s := by
  induction s with
  | bot => simp at hs
  | top => simp [Ideal.div]
  | coe s =>
    have h : 0 < s := by exact_mod_cast hs
    rw [Ideal.div_coe h.ne', Ideal.rsqrt_coe, if_neg (not_lt.mpr h.le), if_neg h.ne']
    rw [← EReal.coe_mul, ← EReal.coe_mul, ← EReal.coe_mul]
    congr 1
    have hq := Real.sq_sqrt h.le
    have hp := Real.sqrt_pos.mpr h
    rw [mul_assoc]
    congr 1
    rw [← mul_inv, ← pow_two, hq, one_div]

/-- The gradient through the mean square, taken twice as the product rule takes it, is the one term that the kernel
subtracts. -/
theorem mean_term (x S s : EReal) (hs : 0 < s) {d : ℝ} (hd : 0 < d) :
    x * Ideal.div (S * (Ideal.ofBits .f32 0xBF000000#32 * Ideal.div (Ideal.rsqrt s) s)) (d : EReal)
      + Ideal.div (S * (Ideal.ofBits .f32 0xBF000000#32 * Ideal.div (Ideal.rsqrt s) s)) (d : EReal) * x
      = -(x * (Ideal.rsqrt s * Ideal.rsqrt s * Ideal.rsqrt s) * Ideal.div S (d : EReal)) := by
  rw [rsqrt_div s hs, ofBits_neg_half, Ideal.div_coe hd.ne', Ideal.div_coe hd.ne']
  generalize Ideal.rsqrt s * Ideal.rsqrt s * Ideal.rsqrt s = q
  generalize ((1 / d : ℝ) : EReal) = k
  rw [mul_comm _ x, add_self]
  have e : ((2 : ℝ) : EReal) * (x * (S * (((-1 / 2 : ℝ) : EReal) * q) * k))
      = (((2 : ℝ) : EReal) * ((-1 / 2 : ℝ) : EReal)) * (x * q * (S * k)) := by ac_rfl
  rw [e, ← EReal.coe_mul, show (2 : ℝ) * (-1 / 2) = -1 by norm_num]
  simp

/-- The gradient of a row through its norm, as the product rule writes it and as the kernel does. -/
theorem norm_term (dy p x S s : EReal) (hs : 0 < s) :
    dy + (p * Ideal.rsqrt s
        + x * (∑ _k : Fin 1, Ideal.div (S * (Ideal.ofBits .f32 0xBF000000#32 * Ideal.div (Ideal.rsqrt s) s)) (Ideal.ofBits .f32 0x44800000#32))
      + (∑ _k : Fin 1, Ideal.div (S * (Ideal.ofBits .f32 0xBF000000#32 * Ideal.div (Ideal.rsqrt s) s)) (Ideal.ofBits .f32 0x44800000#32)) * x)
      = dy + Ideal.rsqrt s * p - x * (Ideal.rsqrt s * Ideal.rsqrt s * Ideal.rsqrt s) * Ideal.div S (Ideal.ofBits .f32 0x44800000#32) := by
  rw [ofBits_1024, Fin.sum_univ_one, add_assoc, mean_term x S s hs (by norm_num), sub_eq_add_neg, add_assoc, mul_comm p]

/-- A factor comes out of a sum of nonnegative numbers. -/
theorem sum_mul_nonneg {n : ℕ} (f : Fin n → EReal) (hf : ∀ t, 0 ≤ f t) (r : EReal) : ∑ t, f t * r = (∑ t, f t) * r := by
  have h : ∀ s : Finset (Fin n), ∑ t ∈ s, f t * r = (∑ t ∈ s, f t) * r := fun s => by
    induction s using Finset.induction_on with
    | empty => simp
    | insert a s ha ih =>
      rw [Finset.sum_insert ha, Finset.sum_insert ha, ih, EReal.right_distrib_of_nonneg (hf a) (Finset.sum_nonneg fun t _ => hf t)]
  exact h _

/-- Half the sum over the rows of the means of squares: column sums first, the division last. -/
theorem half_mean_sum (e : Fin 2048 → Fin 1024 → EReal) :
    Ideal.ofBits .f32 0x3F000000#32 * ∑ t, Ideal.div (∑ k, e t k * e t k) (Ideal.ofBits .f32 0x44800000#32)
      = Ideal.ofBits .f32 0x3F000000#32 * (∑ k, ∑ t, e t k * e t k) * Ideal.ofBits .f32 0x3A800000#32 := by
  rw [ofBits_1024, ofBits_inv_1024, mul_assoc]
  congr 1
  rw [Finset.sum_comm, ← sum_mul_nonneg _ fun t => Finset.sum_nonneg fun k _ => mul_self_nonneg _]
  exact Finset.sum_congr rfl fun t _ => Ideal.div_coe (by norm_num : (1024 : ℝ) ≠ 0) _

end Cert.Roots
-- ==== Proof.Norm.lean ====
module

public import proofs.«01_k».proof.Proof.Gen.Kernel5Ideal.Frame
public import proofs.«01_k».proof.Defs
public import proofs.«01_k».proof.Proof.Gen.Reference5Ideal.Run
public import proofs.«01_k».proof.Proof.Roots
public import Idealize.ShloMosaic.Lib.Pointwise
public import Idealize.ShloMosaic.Lib.Pipeline.ValueKit

/-! # The backward pass of the norm at the layer's input -/

@[expose] public section

set_option maxRecDepth 16384

noncomputable section

namespace Cert.Kernel5Ideal.Norm

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The four arguments: the norm's input and weight, the gradient of its output, and the gradient already at its input. -/
abbrev X (c : Dev nD) : S2048x1024.Idx → EReal := m ((c : Thread nD τ).loc main_arg0)
/-- The norm's weight. -/
abbrev W (c : Dev nD) : S1x1024.Idx → EReal := m ((c : Thread nD τ).loc main_arg1)
/-- The gradient of the norm's output. -/
abbrev DH (c : Dev nD) : S2048x1024.Idx → EReal := m ((c : Thread nD τ).loc main_arg2)
/-- The gradient that reaches the norm's input past the norm. -/
abbrev DY (c : Dev nD) : S2048x1024.Idx → EReal := m ((c : Thread nD τ).loc main_arg3)

/-- What the body computes of one row: the reciprocal root of its mean square. -/
def root (x : Fin 1024 → EReal) : EReal :=
  Ideal.rsqrt (Ideal.div (∑ k, x k * x k) (Ideal.ofBits .f32 0x44800000#32) + Ideal.ofBits .f32 0x358637BD#32)

/-- The blocks that each point works on. -/
theorem idx (t : Fin cfg0.N) : win0_0.index t = ![t.val, 0] ∧ win0_1.index t = ![0, 0] ∧ win0_2.index t = ![t.val, 0]
    ∧ win0_3.index t = ![t.val, 0] ∧ win0_4.index t = ![t.val, 0] ∧ win0_5.index t = ![0, 0] := by
  revert t; decide +kernel

/-- What a point leaves in the block of the input's gradient. -/
theorem block4 (c : Dev nD) (t : Fin cfg0.N) : (dats m 0 c).after 4 t = k0_pay3 (iblk m c 0 t) (iblk m c 2 t) (iblk m c 1 t) (iblk m c 3 t) := by
  rw [after0_4]
  by_cases h : t.val % 4 = 0
  · have h1 : ¬1 ≤ t.val := by have := t.isLt; have : cfg0.N = 4 := N_0; omega
    rw [outsAt0_A m c t h h1]
    funext y
    frame_out
  · rw [outsAt0_B m c t h (by omega)]
    funext y
    frame_out

/-- The gradient of the norm's input as the kernel computes it. -/
def G4 (c : Dev nD) : S2048x1024.Idx → EReal := fun i =>
  DY m c i + root (fun k => X m c (ix2 (i 0) k)) * (DH m c i * W m c (ix2 0 (i 1)))
    - X m c i * (root (fun k => X m c (ix2 (i 0) k)) * root (fun k => X m c (ix2 (i 0) k)) * root (fun k => X m c (ix2 (i 0) k)))
      * Ideal.div (∑ k : Fin 1024, DH m c (ix2 (i 0) k) * W m c (ix2 0 k) * X m c (ix2 (i 0) k)) (Ideal.ofBits .f32 0x44800000#32)

/-- The gradient of the norm's weight. -/
def G5 (c : Dev nD) : S1x1024.Idx → EReal := fun j =>
  ∑ t : Fin 2048, DH m c (ix2 t (j 1)) * X m c (ix2 t (j 1)) * root (fun k => X m c (ix2 t k))

/-- The kernel leaves the gradient of the norm's input. -/
theorem arr4 (c : Dev nD) : (dats m 0 c).arrAt 4 (cfgs 0).N = G4 m c := by
  refine (dats m 0 c).arrAt_eq_of_covers 4 _ (by decide +kernel) fun t hf y => ?_
  blk_simp
  rw [block4]
  unfold k0_pay3 k0_pay2 G4 root
  pointwise
  blk_point [iblk, idx t]

/-- The first point starts the weight's gradient with its rows' sum. -/
theorem start5 (c : Dev nD) (t : Fin cfg0.N) (h : t.val % 4 = 0) (j : Fin 1024) : (outsAt0 m c t.val t.isLt).2 (ix2 0 j) =
    0 + (k0_pay4 (iblk m c 0 t) (iblk m c 2 t) : FVec Ideal S1x1024 .f32) (ix2 0 j) := by
  have h1 : ¬1 ≤ t.val := by have := t.isLt; have : cfg0.N = 4 := N_0; omega
  rw [outsAt0_A m c t h h1]
  frame_out
  unfold k0_pay4 k0_pay2
  pointwise

/-- Every other point adds its rows' sum. -/
theorem step5 (c : Dev nD) (t : Fin cfg0.N) (h : ¬t.val % 4 = 0) (j : Fin 1024) : (outsAt0 m c t.val t.isLt).2 (ix2 0 j) =
    (outsAt0 m c (t.val - 1) (Nat.lt_of_le_of_lt (Nat.sub_le _ _) t.isLt)).2 (ix2 0 j)
      + (k0_pay4 (iblk m c 0 t) (iblk m c 2 t) : FVec Ideal S1x1024 .f32) (ix2 0 j) := by
  rw [outsAt0_B m c t h (by omega)]
  frame_out
  unfold k0_pay1 k0_pay4 k0_pay2
  pointwise

/-- The kernel leaves the gradient of the norm's weight. -/
theorem arr5 (c : Dev nD) : (dats m 0 c).arrAt 5 (cfgs 0).N = G5 m c := by
  refine (dats m 0 c).arrAt_eq_of_after_last 5 t0_3 (by decide +kernel) _ fun j => ?_
  blk_simp
  rw [after0_5]
  have hj : j = ix2 0 (j 1) := by blk_ext
  rw [hj]
  refine (Pipeline.eq_sum_fin_of_reset_step_apply_last (fun n h (i : Fin 1024) => (outsAt0 m c n h).2 (ix2 0 i)) 4 (fun _ => (0 : EReal)) _
    (start5 m c) (step5 m c) (by decide) t0_3 rfl (j 1)).trans ?_
  unfold k0_pay4 k0_pay2 G5 root
  pointwise
  refine Fin.sum_mul_add_congr fun t k hl => ?_
  blk_point [iblk, idx t]

/-- The run of the program. -/
theorem run : θ_run defs (onTc (τ := τ) (main (F := Ideal))) ⟨m, fun _ => 0, ρ⟩ fun r => ∀ c : Dev nD,
    r.2.mem ((c : Thread nD τ).loc main_v0_0) = G4 m c ∧ r.2.mem ((c : Thread nD τ).loc main_v0_1) = G5 m c :=
  (θ_run defs _ _).mono (fun r h c => ⟨((h c).1 4).trans (arr4 m c), ((h c).1 5).trans (arr5 m c)⟩) (run_main m ρ)

/-- The backward pass of the first norm: kernel and reference end with the same two gradients. -/
theorem algebraic : algebraic_Kernel5Ideal_Reference5Ideal (hKernel5Ideal := Kernel5Ideal.Gen.facts) (hReference5Ideal := Reference5Ideal.Gen.facts) := by
  intro m g m' g' _ hagree
  refine ⟨_, _, (θ_run _ _ _).mono (fun r h c => ⟨(h.1 c).1, (h.1 c).2, h.2 c⟩) (θ_run_and (run m g) (Kernel5Ideal.Gen.unchanged m g)),
    (θ_run _ _ _).mono (fun r h c => ⟨(h c).1.trans ?_, (h c).2.1.trans ?_, (h c).2.2⟩) (Reference5Ideal.Value.run m' g')⟩
  · rw [(hagree c).1, (hagree c).2.1, (hagree c).2.2.1, (hagree c).2.2.2]
    funext i
    unfold G4
    pointwise
    have hS : (∑ k : Fin 1024, X m c (ix2 (i 0) k) * (DH m c (ix2 (i 0) k) * W m c (ix2 0 k)))
        = ∑ k : Fin 1024, DH m c (ix2 (i 0) k) * W m c (ix2 0 k) * X m c (ix2 (i 0) k) :=
      Finset.sum_congr rfl fun k _ => mul_comm _ _
    rw [← hS]
    exact Roots.norm_term _ _ _ _ _ (Roots.square_pos fun k => X m c (ix2 (i 0) k))
  · rw [(hagree c).1,  (hagree c).2.2.1]
    funext i
    unfold G5
    pointwise
    exact Finset.sum_congr rfl fun t _ => by rw [mul_right_comm, mul_comm (DH m c _)]; rfl

end Cert.Kernel5Ideal.Norm
-- ==== Proof.DwProj.lean ====
module

public import proofs.«01_k».proof.Defs
public import proofs.«01_k».proof.Proof.Gen.Kernel2Ideal.Frame
public import proofs.«01_k».proof.Proof.Gen.Reference2Ideal.Run
public import Idealize.ShloMosaic.Lib.Pointwise
public import Idealize.ShloMosaic.Lib.Pipeline.ValueKit

/-! # The gradients of the three weights of the output projections, one kernel for all three -/

@[expose] public section

set_option maxRecDepth 16384

noncomputable section

namespace Cert.Kernel2Ideal.DwProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The three inputs of the products. -/
def A (c : Dev nD) : Fin 3 → S2048x1024.Idx → EReal
  | 0 => m ((c : Thread nD τ).loc main_arg0)
  | 1 => m ((c : Thread nD τ).loc main_arg1)
  | 2 => m ((c : Thread nD τ).loc main_arg2)

/-- The gradients of their three results. -/
def D (c : Dev nD) : Fin 3 → S2048x1024.Idx → EReal
  | 0 => m ((c : Thread nD τ).loc main_arg3)
  | 1 => m ((c : Thread nD τ).loc main_arg4)
  | 2 => m ((c : Thread nD τ).loc main_arg5)

/-- Rounding changes no value: the first input. -/
theorem V_v0 (c : Dev nD) (i : S2048x1024.Idx) : (V m c main_v0 i : EReal) = A m c 0 i := by
  show StableHlo.after hostOps0 (fun b => m (c, b)) (Proc.devRef .tc main_v0) i = _
  after_results
  rfl

/-- The second input. -/
theorem V_v1 (c : Dev nD) (i : S2048x1024.Idx) : (V m c main_v1 i : EReal) = A m c 1 i := by
  show StableHlo.after hostOps0 (fun b => m (c, b)) (Proc.devRef .tc main_v1) i = _
  after_results
  rfl

/-- The third input. -/
theorem V_v2 (c : Dev nD) (i : S2048x1024.Idx) : (V m c main_v2 i : EReal) = A m c 2 i := by
  show StableHlo.after hostOps0 (fun b => m (c, b)) (Proc.devRef .tc main_v2) i = _
  after_results
  rfl

/-- The gradient of the first result. -/
theorem V_v3 (c : Dev nD) (i : S2048x1024.Idx) : (V m c main_v3 i : EReal) = D m c 0 i := by
  show StableHlo.after hostOps0 (fun b => m (c, b)) (Proc.devRef .tc main_v3) i = _
  after_results
  rfl

/-- The gradient of the second result. -/
theorem V_v4 (c : Dev nD) (i : S2048x1024.Idx) : (V m c main_v4 i : EReal) = D m c 1 i := by
  show StableHlo.after hostOps0 (fun b => m (c, b)) (Proc.devRef .tc main_v4) i = _
  after_results
  rfl

/-- The gradient of the third result. -/
theorem V_v5 (c : Dev nD) (i : S2048x1024.Idx) : (V m c main_v5 i : EReal) = D m c 2 i := by
  show StableHlo.after hostOps0 (fun b => m (c, b)) (Proc.devRef .tc main_v5) i = _
  after_results
  rfl

/-- The blocks that each point works on. -/
theorem idx (t : Fin cfg0.N) : win0_0.index t = ![0, 0] ∧ win0_2.index t = ![0, 0] ∧ win0_4.index t = ![0, 0]
    ∧ (t.val < 2 → win0_1.index t = ![0, t.val % 2]) ∧ (t.val / 2 % 3 = 1 → win0_3.index t = ![0, t.val % 2])
    ∧ (4 ≤ t.val → win0_5.index t = ![0, t.val % 2]) ∧ win0_6.index t = ![0, t.val / 2, 0, t.val % 2] := by
  revert t; decide +kernel

/-- The row of an entry, counted over all devices. -/
theorem row_lt (i : S8x3x128x1024.Idx) : (i 0).val * 128 + (i 2).val < 1024 := by
  have h0 : (i 0).val < 8 := (i 0).isLt
  have h2 : (i 2).val < 128 := (i 2).isLt
  omega

/-- What the kernel leaves: for each of the three products the gradient of its weight, cut into the devices' rows. -/
def G (c : Dev nD) : S8x3x128x1024.Idx → EReal := fun i =>
  ∑ t : Fin 2048, A m c (i 1) (ix2 t ⟨(i 0).val * 128 + (i 2).val, row_lt i⟩) * D m c (i 1) (ix2 t (i 3))

/-- A point of the grid writes the product of its first coordinate. -/
theorem second (t : Fin cfg0.N) (y : S8x1x128x512.Idx) : (((win0_6.blk t).view.emb y 1 : Fin 3) : ℕ) = t.val / 2 := by
  have hy : (y 1).val < 1 := (y 1).isLt
  blk_simp [idx t]

/-- A sum of products is the entry of product `p` if its factors are those of `p`. -/
theorem G_of (c : Dev nD) (p : Fin 3) (i : S8x3x128x1024.Idx) (hp : i 1 = p) {f g : Fin 2048 → EReal}
    (hf : ∀ t, f t = A m c p (ix2 t ⟨(i 0).val * 128 + (i 2).val, row_lt i⟩)) (hg : ∀ t, g t = D m c p (ix2 t (i 3))) :
    ∑ t, f t * g t = G m c i := by
  subst hp
  exact Finset.sum_congr rfl fun t _ => congrArg₂ (· * ·) (hf t) (hg t)

/-- The kernel leaves the three gradients, cut by devices. -/
theorem arr_eq (c : Dev nD) : (dats m 0 c).arrAt 6 (cfgs 0).N = G m c := by
  refine (dats m 0 c).arrAt_eq_of_covers 6 _ (by decide +kernel) fun t hf y => ?_
  have hs := second t y
  have hi := idx t
  have hN : t.val < 6 := t.isLt
  blk_simp
  rw [after0_6]
  rcases (by omega : t.val < 2 ∨ (¬t.val < 2 ∧ t.val < 4) ∨ 4 ≤ t.val) with h | h | h
  · rw [outsAt0_A m c t h (by omega) (by omega)]
    frame_out
    unfold k0_pay1
    pointwise
    refine G_of m c 0 _ (Fin.ext (hs.trans (by simp; omega))) (fun x => ?_) (fun x => ?_)
    · rw [← V_v0]
      blk_ext [iblk, hi]
    · have h1 := hi.2.2.2.1 (by omega)
      rw [← V_v3]
      blk_ext [iblk, h1, hi]
  · rw [outsAt0_B m c t h.1 (by omega) (by omega)]
    frame_out
    unfold k0_pay2
    pointwise
    refine G_of m c 1 _ (Fin.ext (hs.trans (by simp; omega))) (fun x => ?_) (fun x => ?_)
    · rw [← V_v1]
      blk_ext [iblk, hi]
    · have h1 := hi.2.2.2.2.1 (by omega)
      rw [← V_v4]
      blk_ext [iblk, h1, hi]
  · rw [outsAt0_C m c t (by omega) (by omega) h]
    frame_out
    unfold k0_pay3
    pointwise
    refine G_of m c 2 _ (Fin.ext (hs.trans (by simp; omega))) (fun x => ?_) (fun x => ?_)
    · rw [← V_v2]
      blk_ext [iblk, hi]
    · have h1 := hi.2.2.2.2.2.1 (by omega)
      rw [← V_v5]
      blk_ext [iblk, h1, hi]

/-- The gradient of the weight of product `p`. -/
def grad (c : Dev nD) (p : Fin 3) : FVec Ideal S1024x1024 .f32 := fun i => ∑ t : Fin 2048, A m c p (ix2 t (i 0)) * D m c p (ix2 t (i 1))

/-- The rows of the devices, put under one another, are the gradient's rows. -/
theorem G_row (c : Dev nD) (p : Fin 3) (i j : Fin 1024) (a : Fin 8) (b : Fin 128) (hi : a.val * 128 + b.val = i.val) :
    G m c (ix4 a p b j) = grad m c p (ix2 i j) :=
  Finset.sum_congr rfl fun t _ => congrArg (fun q => A m c p (ix2 t q) * D m c p (ix2 t j)) (Fin.ext hi)

/-- The array that the tail reads. -/
abbrev out (c : Dev nD) : FVec Ideal S8x3x128x1024 .f32 := extf .f32 (G m c : FVec Ideal S8x3x128x1024 .bf16) bitsLt_bf16_f32

/-- Cutting out the first gradient and putting the devices' rows together. -/
theorem tail0 (c : Dev nD) : (shapeCast S1024x1024 (shapeCast S8x128x1024 (extractStridedSlice S8x1x128x1024 ![0, 0, 0, 0] (out m c)
    slices_S8x3x128x1024_S8x1x128x1024_0_0_0_0) shapeCasts_S8x1x128x1024_S8x128x1024) shapeCasts_S8x128x1024_S1024x1024
    : FVec Ideal S1024x1024 .f32) = grad m c 0 := by
  funext i
  pointwise
  exact G_row m c 0 (i 0) (i 1) _ _ (Nat.div_add_mod' _ _)

/-- The same of the second gradient. -/
theorem tail1 (c : Dev nD) : (shapeCast S1024x1024 (shapeCast S8x128x1024 (extractStridedSlice S8x1x128x1024 ![0, 1, 0, 0] (out m c)
    slices_S8x3x128x1024_S8x1x128x1024_0_1_0_0) shapeCasts_S8x1x128x1024_S8x128x1024) shapeCasts_S8x128x1024_S1024x1024
    : FVec Ideal S1024x1024 .f32) = grad m c 1 := by
  funext i
  pointwise
  exact G_row m c 1 (i 0) (i 1) _ _ (Nat.div_add_mod' _ _)

/-- The same of the third gradient. -/
theorem tail2 (c : Dev nD) : (shapeCast S1024x1024 (shapeCast S8x128x1024 (extractStridedSlice S8x1x128x1024 ![0, 2, 0, 0] (out m c)
    slices_S8x3x128x1024_S8x1x128x1024_0_2_0_0) shapeCasts_S8x1x128x1024_S8x128x1024) shapeCasts_S8x128x1024_S1024x1024
    : FVec Ideal S1024x1024 .f32) = grad m c 2 := by
  funext i
  pointwise
  exact G_row m c 2 (i 0) (i 1) _ _ (Nat.div_add_mod' _ _)

/-- The lines after the kernel give the three gradients. -/
theorem tail_eq (c : Dev nD) : Pipeline.afterTail₀ cfgs (dats m) 0 (V0 m) [hostOps1] c main_v10 = grad m c 0
    ∧ Pipeline.afterTail₀ cfgs (dats m) 0 (V0 m) [hostOps1] c main_v13 = grad m c 1
    ∧ Pipeline.afterTail₀ cfgs (dats m) 0 (V0 m) [hostOps1] c main_v16 = grad m c 2 := by
  have hw := Pipeline.withArrays_arr (cfgs 0).spec (by decide) c (V0 m c) (fun w => (dats m 0 c).arrAt w (cfgs 0).N) 6
  rw [arr_eq m c] at hw
  refine ⟨?_, ?_, ?_⟩
  · show StableHlo.after hostOps1 (Pipeline.withArrays (cfgs 0).spec c (V0 m c) fun w => (dats m 0 c).arrAt w (cfgs 0).N)
      (Proc.devRef .tc main_v10) = _
    generalize Pipeline.withArrays (cfgs 0).spec c (V0 m c) (fun w => (dats m 0 c).arrAt w (cfgs 0).N) = B at hw ⊢
    after_results
    rw [← tail0, out, ← hw]
    rfl
  · show StableHlo.after hostOps1 (Pipeline.withArrays (cfgs 0).spec c (V0 m c) fun w => (dats m 0 c).arrAt w (cfgs 0).N)
      (Proc.devRef .tc main_v13) = _
    generalize Pipeline.withArrays (cfgs 0).spec c (V0 m c) (fun w => (dats m 0 c).arrAt w (cfgs 0).N) = B at hw ⊢
    after_results
    rw [← tail1, out, ← hw]
    rfl
  · show StableHlo.after hostOps1 (Pipeline.withArrays (cfgs 0).spec c (V0 m c) fun w => (dats m 0 c).arrAt w (cfgs 0).N)
      (Proc.devRef .tc main_v16) = _
    generalize Pipeline.withArrays (cfgs 0).spec c (V0 m c) (fun w => (dats m 0 c).arrAt w (cfgs 0).N) = B at hw ⊢
    after_results
    rw [← tail2, out, ← hw]
    rfl

/-- The run of the program: the three gradients. -/
theorem run : θ_run defs (onTc (τ := τ) (main (F := Ideal))) ⟨m, fun _ => 0, ρ⟩ fun r => ∀ c : Dev nD,
    r.2.mem ((c : Thread nD τ).loc main_v10) = grad m c 0 ∧ r.2.mem ((c : Thread nD τ).loc main_v13) = grad m c 1
      ∧ r.2.mem ((c : Thread nD τ).loc main_v16) = grad m c 2 :=
  (θ_run defs _ _).mono (fun r h c => ⟨((h c).2 main_v10 (Pipeline.mem_restRefs_of main_v10 (by decide) (by decide))).trans (tail_eq m c).1,
    ((h c).2 main_v13 (Pipeline.mem_restRefs_of main_v13 (by decide) (by decide))).trans (tail_eq m c).2.1,
    ((h c).2 main_v16 (Pipeline.mem_restRefs_of main_v16 (by decide) (by decide))).trans (tail_eq m c).2.2⟩) (run_main m ρ)

/-- The gradient of a product's weight, as the reference takes it. -/
theorem reference (a d : FVec Ideal Reference2Ideal.S2048x1024 .f32) :
    (transpose Reference2Ideal.S1024x1024 [1, 0] (Host.dotGeneral Reference2Ideal.dot_S2048x1024_S2048x1024_S1024x1024_0_0_1_1_n_n none d a)
      Reference2Ideal.Gen.facts.transposes_S1024x1024_S1024x1024_1_0 : FVec Ideal Reference2Ideal.S1024x1024 .f32)
      = fun i => ∑ t : Fin 2048, (a (ix2 t (i 0)) : EReal) * d (ix2 t (i 1)) := by
  funext i
  pointwise
  exact Finset.sum_congr rfl fun t _ => mul_comm _ _

/-- The gradients of the three output projections: kernel and reference end with the same arrays. -/
theorem algebraic : algebraic_Kernel2Ideal_Reference2Ideal (hKernel2Ideal := Kernel2Ideal.Gen.facts) (hReference2Ideal := Reference2Ideal.Gen.facts) := by
  intro m g m' g' _ hagree
  refine ⟨_, _, _, (θ_run _ _ _).mono (fun r h c => ⟨(h.1 c).1, (h.1 c).2.1, (h.1 c).2.2, h.2 c⟩)
      (θ_run_and (run m g) (Kernel2Ideal.Gen.unchanged m g)),
    (θ_run _ _ _).mono (fun r h c => ⟨(h c).1.trans ((reference _ _).trans ?_), (h c).2.1.trans ((reference _ _).trans ?_),
      (h c).2.2.1.trans ((reference _ _).trans ?_), (h c).2.2.2⟩) (Reference2Ideal.Value.run m' g')⟩
  · rw [(hagree c).1, (hagree c).2.2.2.1]; rfl
  · rw [(hagree c).2.1, (hagree c).2.2.2.2.1]; rfl
  · rw [(hagree c).2.2.1, (hagree c).2.2.2.2.2]; rfl

end Cert.Kernel2Ideal.DwProj
-- ==== Proof.Mid.lean ====
module

public import proofs.«01_k».proof.Defs
public import proofs.«01_k».proof.Proof.Gen.KernelIdeal.Frame
public import proofs.«01_k».proof.Proof.Gen.ReferenceIdeal.Run
public import proofs.«01_k».proof.Proof.Roots
public import Idealize.ShloMosaic.Lib.Pointwise
public import Idealize.ShloMosaic.Lib.Pipeline.ValueKit

/-! # The middle of the step: merge, output projection, norm, loss, and the way back to the two mixers -/

@[expose] public section

set_option maxRecDepth 16384

noncomputable section

namespace Cert.KernelIdeal.Mid

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The ten arguments: the two attention outputs, the two gates before their sigmoids, the residual stream and the target,
    the three weights and the weight of the norm. -/
abbrev OG (c : Dev nD) : S2048x1024.Idx → EReal := m ((c : Thread nD τ).loc main_arg0)
/-- The output of the second mixer. -/
abbrev OB (c : Dev nD) : S2048x1024.Idx → EReal := m ((c : Thread nD τ).loc main_arg1)
/-- The first mixer's gate, before the sigmoid. -/
abbrev GA (c : Dev nD) : S2048x1024.Idx → EReal := m ((c : Thread nD τ).loc main_arg2)
/-- The second mixer's gate, before the sigmoid. -/
abbrev GB (c : Dev nD) : S2048x1024.Idx → EReal := m ((c : Thread nD τ).loc main_arg3)
/-- The input of the layer. -/
abbrev XX (c : Dev nD) : S2048x1024.Idx → EReal := m ((c : Thread nD τ).loc main_arg4)
/-- The target of the loss. -/
abbrev TT (c : Dev nD) : S2048x1024.Idx → EReal := m ((c : Thread nD τ).loc main_arg5)
/-- The weight of the first mixer's projection. -/
abbrev WG (c : Dev nD) : S1024x1024.Idx → EReal := m ((c : Thread nD τ).loc main_arg6)
/-- The weight of the second mixer's projection. -/
abbrev WL (c : Dev nD) : S1024x1024.Idx → EReal := m ((c : Thread nD τ).loc main_arg7)
/-- The weight of the output projection. -/
abbrev WO (c : Dev nD) : S1024x1024.Idx → EReal := m ((c : Thread nD τ).loc main_arg8)
/-- The weight of the last norm. -/
abbrev WP (c : Dev nD) : S1x1024.Idx → EReal := m ((c : Thread nD τ).loc main_arg9)

/-- The blocks that each point works on. -/
theorem idx (t : Fin cfg0.N) : win0_0.index t = ![t.val, 0] ∧ win0_1.index t = ![t.val, 0] ∧ win0_2.index t = ![t.val, 6]
    ∧ win0_3.index t = ![t.val, 7] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_12.index t = ![t.val, 0]
    ∧ win0_13.index t = ![t.val, 0] ∧ win0_14.index t = ![t.val, 0] ∧ win0_15.index t = ![t.val, 0] ∧ win0_16.index t = ![t.val, 0]
    ∧ win0_17.index t = ![t.val, 3] ∧ win0_18.index t = ![t.val, 0] ∧ win0_19.index t = ![t.val, 0] := by
  revert t; decide +kernel

/-- Row `r` of the block of point `t`. -/
def row (t : Fin cfg0.N) (r : Fin 256) : Fin 2048 := ⟨t.val * 256 + r.val, by have : t.val < 8 := t.isLt; omega⟩

/-! ## The blocks read -/

/-- A point's rows of the first mixer's output. -/
theorem b0 (c : Dev nD) (t : Fin cfg0.N) (r : Fin 256) (k : Fin 1024) : (iblk m c 0 t (ix2 r k) : EReal) = OG m c (ix2 (row t r) k) := by
  show (StableHlo.after hostOps0 (fun b => m (c, b)) (Proc.devRef .tc main_v3) _ : EReal) = _
  after_results
  show OG m c _ = _
  blk_ext [idx t, row]

/-- A point's rows of the second mixer's output. -/
theorem b1 (c : Dev nD) (t : Fin cfg0.N) (r : Fin 256) (k : Fin 1024) : (iblk m c 1 t (ix2 r k) : EReal) = OB m c (ix2 (row t r) k) := by
  show (StableHlo.after hostOps0 (fun b => m (c, b)) (Proc.devRef .tc main_v4) _ : EReal) = _
  after_results
  show OB m c _ = _
  blk_ext [idx t, row]

/-- Columns 6144 … 7167 of the projections are the first gate. -/
theorem V_ga (c : Dev nD) (i : S2048x9728.Idx) (k : Fin 1024) (h : (i 1).val = 6144 + k.val) : (V m c main_v2 i : EReal) = GA m c (ix2 (i 0) k) := by
  show (StableHlo.after hostOps0 (fun b => m (c, b)) (Proc.devRef .tc main_v2) i : EReal) = _
  after_results
  pointwise
  refine (dif_neg (by omega)).trans ((dif_pos (by omega)).trans ?_)
  show GA m c _ = _
  exact congrArg (fun q => GA m c (ix2 (i 0) q)) (Fin.ext (by show (i 1).val - 6144 = k.val; omega))

/-- Columns 7168 … 8191 of the projections are the second gate. -/
theorem V_gb (c : Dev nD) (i : S2048x9728.Idx) (k : Fin 1024) (h : (i 1).val = 7168 + k.val) : (V m c main_v2 i : EReal) = GB m c (ix2 (i 0) k) := by
  show (StableHlo.after hostOps0 (fun b => m (c, b)) (Proc.devRef .tc main_v2) i : EReal) = _
  after_results
  pointwise
  refine (dif_neg (by omega)).trans ((dif_neg (by omega)).trans ((dif_pos (by omega)).trans ?_))
  show GB m c _ = _
  exact congrArg (fun q => GB m c (ix2 (i 0) q)) (Fin.ext (by show (i 1).val - 6144 - 1024 = k.val; omega))

/-- A point's rows of the first gate, read out of the projections' array. -/
theorem b2 (c : Dev nD) (t : Fin cfg0.N) (r : Fin 256) (k : Fin 1024) : (X0_2 m c t (ix2 r k) : EReal) = GA m c (ix2 (row t r) k) := by
  refine (dif_pos (moved0_2 t _)).trans ?_
  refine (V_ga m c _ k (by blk_simp [idx t])).trans ?_
  blk_ext [idx t, row]

/-- A point's rows of the second gate, read out of the projections' array. -/
theorem b3 (c : Dev nD) (t : Fin cfg0.N) (r : Fin 256) (k : Fin 1024) : (X0_3 m c t (ix2 r k) : EReal) = GB m c (ix2 (row t r) k) := by
  refine (dif_pos (moved0_3 t _)).trans ?_
  refine (V_gb m c _ k (by blk_simp [idx t])).trans ?_
  blk_ext [idx t, row]

/-- A point's rows of the layer's input. -/
theorem b4 (c : Dev nD) (t : Fin cfg0.N) (r : Fin 256) (k : Fin 1024) : (iblk m c 4 t (ix2 r k) : EReal) = XX m c (ix2 (row t r) k) := by
  blk_ext [iblk, idx t, row]

/-- A point's rows of the target. -/
theorem b5 (c : Dev nD) (t : Fin cfg0.N) (r : Fin 256) (k : Fin 1024) : (iblk m c 5 t (ix2 r k) : EReal) = TT m c (ix2 (row t r) k) := by
  blk_ext [iblk, idx t, row]

/-- The first projection, whole at every point. -/
theorem b6 (c : Dev nD) (t : Fin cfg0.N) (i k : Fin 1024) : (iblk m c 6 t (ix2 i k) : EReal) = WG m c (ix2 i k) := by
  show (StableHlo.after hostOps0 (fun b => m (c, b)) (Proc.devRef .tc main_v5) _ : EReal) = _
  after_results
  show WG m c _ = _
  blk_ext [idx t]

/-- The second projection, whole at every point. -/
theorem b7 (c : Dev nD) (t : Fin cfg0.N) (i k : Fin 1024) : (iblk m c 7 t (ix2 i k) : EReal) = WL m c (ix2 i k) := by
  show (StableHlo.after hostOps0 (fun b => m (c, b)) (Proc.devRef .tc main_v6) _ : EReal) = _
  after_results
  show WL m c _ = _
  blk_ext [idx t]

/-- The output projection, whole at every point. -/
theorem b8 (c : Dev nD) (t : Fin cfg0.N) (i k : Fin 1024) : (iblk m c 8 t (ix2 i k) : EReal) = WO m c (ix2 i k) := by
  show (StableHlo.after hostOps0 (fun b => m (c, b)) (Proc.devRef .tc main_v7) _ : EReal) = _
  after_results
  show WO m c _ = _
  blk_ext [idx t]

/-- The norm's weight, whole at every point. -/
theorem b9 (c : Dev nD) (t : Fin cfg0.N) (k : Fin 1024) : (iblk m c 9 t (ix2 0 k) : EReal) = WP m c (ix2 0 k) := by
  blk_ext [iblk, idx t]

/-! ## What the body computes, array by array -/

/-- The first mixer's output, projected. -/
def YA (c : Dev nD) : S2048x1024.Idx → EReal := fun i => ∑ k : Fin 1024, OG m c (ix2 (i 0) k) * WG m c (ix2 k (i 1))
/-- The second mixer's output, projected. -/
def YB (c : Dev nD) : S2048x1024.Idx → EReal := fun i => ∑ k : Fin 1024, OB m c (ix2 (i 0) k) * WL m c (ix2 k (i 1))
/-- The first gate. -/
def SA (c : Dev nD) : S2048x1024.Idx → EReal := fun i => Ideal.logistic (GA m c i)
/-- The second gate. -/
def SB (c : Dev nD) : S2048x1024.Idx → EReal := fun i => Ideal.logistic (GB m c i)
/-- The merge of the two attentions. -/
def MM (c : Dev nD) : S2048x1024.Idx → EReal := fun i => SA m c i * YA m c i + SB m c i * YB m c i
/-- Its product with the last weight. -/
def OUT (c : Dev nD) : S2048x1024.Idx → EReal := fun i => ∑ k : Fin 1024, MM m c (ix2 (i 0) k) * WO m c (ix2 k (i 1))
/-- The mean square of one of its rows, plus the small number. -/
def SQ (c : Dev nD) (t : Fin 2048) : EReal :=
  Ideal.div (∑ k : Fin 1024, OUT m c (ix2 t k) * OUT m c (ix2 t k)) (Ideal.ofBits .f32 0x44800000#32) + Ideal.ofBits .f32 0x358637BD#32

/-- The reciprocal root of a row's mean square. -/
def R (c : Dev nD) (t : Fin 2048) : EReal := Ideal.rsqrt (SQ m c t)
/-- The difference from the target. -/
def E (c : Dev nD) : S2048x1024.Idx → EReal := fun i => XX m c i + OUT m c i * R m c (i 0) * WP m c (ix2 0 (i 1)) - TT m c i
/-- The gradient of the residual stream. -/
def DY (c : Dev nD) : S2048x1024.Idx → EReal := fun i => E m c i * Ideal.ofBits .f32 0x3A800000#32
/-- The gradient of `OUT`. -/
def DO (c : Dev nD) : S2048x1024.Idx → EReal := fun i =>
  R m c (i 0) * (DY m c i * WP m c (ix2 0 (i 1)))
    - OUT m c i * (R m c (i 0) * R m c (i 0) * R m c (i 0))
      * Ideal.div (∑ k : Fin 1024, DY m c (ix2 (i 0) k) * WP m c (ix2 0 k) * OUT m c (ix2 (i 0) k)) (Ideal.ofBits .f32 0x44800000#32)
/-- The gradient of the merge. -/
def DM (c : Dev nD) : S2048x1024.Idx → EReal := fun i => ∑ k : Fin 1024, DO m c (ix2 (i 0) k) * WO m c (ix2 (i 1) k)
/-- The gradient of the first mixer's projected output. -/
def DA (c : Dev nD) : S2048x1024.Idx → EReal := fun i => DM m c i * SA m c i
/-- The gradient of the second mixer's projected output. -/
def DB (c : Dev nD) : S2048x1024.Idx → EReal := fun i => DM m c i * SB m c i
/-- The gradients of the two gates. -/
def DGA (c : Dev nD) : S2048x1024.Idx → EReal := fun i => DM m c i * YA m c i * SA m c i * (Ideal.ofBits .f32 0x3F800000#32 - SA m c i)
/-- The gradient of the second gate before the sigmoid. -/
def DGB (c : Dev nD) : S2048x1024.Idx → EReal := fun i => DM m c i * YB m c i * SB m c i * (Ideal.ofBits .f32 0x3F800000#32 - SB m c i)
/-- The gradients of the two attention outputs. -/
def DOG (c : Dev nD) : S2048x1024.Idx → EReal := fun i => ∑ k : Fin 1024, DA m c (ix2 (i 0) k) * WG m c (ix2 (i 1) k)
/-- The gradient of the second mixer's output. -/
def DOB (c : Dev nD) : S2048x1024.Idx → EReal := fun i => ∑ k : Fin 1024, DB m c (ix2 (i 0) k) * WL m c (ix2 (i 1) k)

/-! ## The values of one point -/

section Point
variable (c : Dev nD) (t : Fin cfg0.N)

/-- The merge's product of the point. -/
abbrev v24 : FVec Ideal S256x1024 .f32 := k0_pay9 (iblk m c 0 t) (iblk m c 6 t) (iblk m c 1 t) (iblk m c 7 t) (X0_2 m c t) (X0_3 m c t) (iblk m c 8 t)
/-- The reciprocal roots of its rows. -/
abbrev v32 : FVec Ideal S256x1 .f32 := k0_pay10 (iblk m c 0 t) (iblk m c 6 t) (iblk m c 1 t) (iblk m c 7 t) (X0_2 m c t) (X0_3 m c t) (iblk m c 8 t)
/-- The gradient of the merge. -/
abbrev v74 : FVec Ideal S256x1024 .f32 := k0_pay17 (v24 m c t) (v32 m c t) (iblk m c 9 t) (iblk m c 4 t) (iblk m c 5 t) (iblk m c 8 t)

/-- What the body computes at a point: its rows of the first mixer's projected output. -/
theorem p_ya (r : Fin 256) (k : Fin 1024) : (k0_pay3 (iblk m c 0 t) (iblk m c 6 t) (ix2 r k) : EReal) = YA m c (ix2 (row t r) k) := by
  unfold k0_pay3 YA
  pointwise
  exact Finset.sum_congr rfl fun q _ => congrArg₂ (· * ·) (b0 m c t r q) (b6 m c t q k)

/-- What the body computes at a point: its rows of the second mixer's projected output. -/
theorem p_yb (r : Fin 256) (k : Fin 1024) : (k0_pay4 (iblk m c 1 t) (iblk m c 7 t) (ix2 r k) : EReal) = YB m c (ix2 (row t r) k) := by
  unfold k0_pay4 YB
  pointwise
  exact Finset.sum_congr rfl fun q _ => congrArg₂ (· * ·) (b1 m c t r q) (b7 m c t q k)

/-- What the body computes at a point: its rows of the first gate. -/
theorem p_sa (r : Fin 256) (k : Fin 1024) : (k0_pay5 (X0_2 m c t) (ix2 r k) : EReal) = SA m c (ix2 (row t r) k) := by
  unfold k0_pay5 SA
  pointwise
  rw [b2 m c t r k]

/-- What the body computes at a point: its rows of the second gate. -/
theorem p_sb (r : Fin 256) (k : Fin 1024) : (k0_pay6 (X0_3 m c t) (ix2 r k) : EReal) = SB m c (ix2 (row t r) k) := by
  unfold k0_pay6 SB
  pointwise
  rw [b3 m c t r k]

/-- What the body computes at a point: its rows of the merged outputs. -/
theorem p_m (r : Fin 256) (k : Fin 1024) : (k0_pay7 (iblk m c 0 t) (iblk m c 6 t) (iblk m c 1 t) (iblk m c 7 t) (X0_2 m c t) (X0_3 m c t) (ix2 r k) : EReal)
    = MM m c (ix2 (row t r) k) := by
  unfold k0_pay7 MM
  pointwise
  exact congrArg₂ (· + ·) (congrArg₂ (· * ·) (p_sa m c t r k) (p_ya m c t r k)) (congrArg₂ (· * ·) (p_sb m c t r k) (p_yb m c t r k))

/-- What the body computes at a point: its rows of the output projection. -/
theorem p_out (r : Fin 256) (k : Fin 1024) : (v24 m c t (ix2 r k) : EReal) = OUT m c (ix2 (row t r) k) := by
  unfold v24 k0_pay9 OUT
  pointwise
  exact Finset.sum_congr rfl fun q _ => congrArg₂ (· * ·) (p_m m c t r q) (b8 m c t q k)

/-- What the body computes at a point: its rows of the reciprocal roots. -/
theorem p_r (r : Fin 256) : (v32 m c t (ix2 r 0) : EReal) = R m c (row t r) := by
  unfold v32 k0_pay10 R SQ
  pointwise
  have h : ∀ k, (v24 m c t (ix2 r k) * v24 m c t (ix2 r k) : EReal) = OUT m c (ix2 (row t r) k) * OUT m c (ix2 (row t r) k) := fun k => by
    rw [p_out m c t r k]
  exact congrArg (fun s => Ideal.rsqrt (Ideal.div s _ + _)) (Finset.sum_congr rfl fun k _ => h k)

/-- What the body computes at a point: its rows of the error. -/
theorem p_e (r : Fin 256) (k : Fin 1024) : (k0_pay11 (v24 m c t) (v32 m c t) (iblk m c 9 t) (iblk m c 4 t) (iblk m c 5 t) (ix2 r k) : EReal)
    = E m c (ix2 (row t r) k) := by
  unfold k0_pay11 E
  pointwise
  exact congrArg₂ (· - ·) (congrArg₂ (· + ·) (b4 m c t r k) (congrArg₂ (· * ·) (congrArg₂ (· * ·) (p_out m c t r k) (p_r m c t r)) (b9 m c t k)))
    (b5 m c t r k)

/-- What the body computes at a point: its rows of the gradient of the layer's output. -/
theorem p_dy (r : Fin 256) (k : Fin 1024) : (k0_pay12 (v24 m c t) (v32 m c t) (iblk m c 9 t) (iblk m c 4 t) (iblk m c 5 t) (ix2 r k) : EReal)
    = DY m c (ix2 (row t r) k) := by
  unfold k0_pay12 DY
  pointwise
  exact congrArg (· * _) (p_e m c t r k)

/-- What the body computes at a point: its rows of the gradient of the output projection. -/
theorem p_do (r : Fin 256) (k : Fin 1024) : (k0_pay15 (v24 m c t) (v32 m c t) (iblk m c 9 t) (iblk m c 4 t) (iblk m c 5 t) (ix2 r k) : EReal)
    = DO m c (ix2 (row t r) k) := by
  unfold k0_pay15 DO
  pointwise
  have h : ∀ k, (k0_pay12 (v24 m c t) (v32 m c t) (iblk m c 9 t) (iblk m c 4 t) (iblk m c 5 t) (ix2 r k) * iblk m c 9 t (ix2 0 k) : EReal)
      = DY m c (ix2 (row t r) k) * WP m c (ix2 0 k) := fun k => congrArg₂ (· * ·) (p_dy m c t r k) (b9 m c t k)
  refine congrArg₂ (· - ·) (congrArg₂ (· * ·) (p_r m c t r) (h k)) (congrArg₂ (· * ·) (congrArg₂ (· * ·) (p_out m c t r k) ?_)
    (congrArg (Ideal.div · _) (Finset.sum_congr rfl fun q _ => congrArg₂ (· * ·) (h q) (p_out m c t r q))))
  exact congrArg₂ (· * ·) (congrArg₂ (· * ·) (p_r m c t r) (p_r m c t r)) (p_r m c t r)

/-- What the body computes at a point: its rows of the gradient of the merged outputs. -/
theorem p_dm (r : Fin 256) (k : Fin 1024) : (v74 m c t (ix2 r k) : EReal) = DM m c (ix2 (row t r) k) := by
  unfold v74 k0_pay17 DM
  pointwise
  exact Finset.sum_congr rfl fun q _ => congrArg₂ (· * ·) (p_do m c t r q) (b8 m c t k q)

/-- The gradients of the two products under the merge, at the point. -/
abbrev v75 : FVec Ideal S256x1024 .f32 := k0_pay18 (k0_pay5 (X0_2 m c t)) (v24 m c t) (v32 m c t) (iblk m c 9 t) (iblk m c 4 t) (iblk m c 5 t) (iblk m c 8 t)

/-- What the body computes at a point: its rows of the gradient of the first mixer's projected output. -/
theorem p_da (r : Fin 256) (k : Fin 1024) : (v75 m c t (ix2 r k) : EReal) = DA m c (ix2 (row t r) k) := by
  unfold v75 k0_pay18 DA
  pointwise
  exact congrArg₂ (· * ·) (p_dm m c t r k) (p_sa m c t r k)

/-- What the body computes at a point: its rows of the gradient of the second mixer's projected output. -/
theorem p_db (r : Fin 256) (k : Fin 1024) : (k0_pay19 (k0_pay6 (X0_3 m c t)) (v74 m c t) (ix2 r k) : EReal) = DB m c (ix2 (row t r) k) := by
  unfold k0_pay19 DB
  pointwise
  exact congrArg₂ (· * ·) (p_dm m c t r k) (p_sb m c t r k)

/-- What the body computes at a point: its rows of the gradient of the first gate. -/
theorem p_dga (r : Fin 256) (k : Fin 1024) :
    (k0_pay22 (k0_pay3 (iblk m c 0 t) (iblk m c 6 t)) (k0_pay5 (X0_2 m c t)) (v74 m c t) (ix2 r k) : EReal) = DGA m c (ix2 (row t r) k) := by
  unfold k0_pay22 DGA
  pointwise
  exact congrArg₂ (· * ·) (congrArg₂ (· * ·) (congrArg₂ (· * ·) (p_dm m c t r k) (p_ya m c t r k)) (p_sa m c t r k)) (congrArg (_ - ·) (p_sa m c t r k))

/-- What the body computes at a point: its rows of the gradient of the second gate. -/
theorem p_dgb (r : Fin 256) (k : Fin 1024) :
    (k0_pay23 (k0_pay4 (iblk m c 1 t) (iblk m c 7 t)) (k0_pay6 (X0_3 m c t)) (v74 m c t) (ix2 r k) : EReal) = DGB m c (ix2 (row t r) k) := by
  unfold k0_pay23 DGB
  pointwise
  exact congrArg₂ (· * ·) (congrArg₂ (· * ·) (congrArg₂ (· * ·) (p_dm m c t r k) (p_yb m c t r k)) (p_sb m c t r k)) (congrArg (_ - ·) (p_sb m c t r k))

/-- What the body computes at a point: its rows of the gradient of the first mixer's output. -/
theorem p_dog (r : Fin 256) (k : Fin 1024) : (k0_pay24 (v75 m c t) (iblk m c 6 t) (ix2 r k) : EReal) = DOG m c (ix2 (row t r) k) := by
  unfold k0_pay24 DOG
  pointwise
  exact Finset.sum_congr rfl fun q _ => congrArg₂ (· * ·) (p_da m c t r q) (b6 m c t k q)

/-- What the body computes at a point: its rows of the gradient of the second mixer's output. -/
theorem p_dob (r : Fin 256) (k : Fin 1024) : (k0_pay25 (k0_pay6 (X0_3 m c t)) (v74 m c t) (iblk m c 7 t) (ix2 r k) : EReal) = DOB m c (ix2 (row t r) k) := by
  unfold k0_pay25 DOB
  pointwise
  exact Finset.sum_congr rfl fun q _ => congrArg₂ (· * ·) (p_db m c t r q) (b7 m c t k q)

/-- The rows' part of the loss, and of the gradient of the norm's weight. -/
theorem p_loss (k : Fin 1024) : (k0_pay13 (v24 m c t) (v32 m c t) (iblk m c 9 t) (iblk m c 4 t) (iblk m c 5 t) (ix2 0 k) : EReal)
    = ∑ r : Fin 256, E m c (ix2 (row t r) k) * E m c (ix2 (row t r) k) := by
  unfold k0_pay13
  pointwise
  exact Finset.sum_congr rfl fun r _ => congrArg₂ (· * ·) (p_e m c t r k) (p_e m c t r k)

/-- What the body adds to the gradient of the norm's weight: the sum over its rows. -/
theorem p_wp (k : Fin 1024) : (k0_pay14 (v24 m c t) (v32 m c t) (iblk m c 9 t) (iblk m c 4 t) (iblk m c 5 t) (ix2 0 k) : EReal)
    = ∑ r : Fin 256, DY m c (ix2 (row t r) k) * OUT m c (ix2 (row t r) k) * R m c (row t r) := by
  unfold k0_pay14
  pointwise
  exact Finset.sum_congr rfl fun r _ => congrArg₂ (· * ·) (congrArg₂ (· * ·) (p_dy m c t r k) (p_out m c t r k)) (p_r m c t r)

end Point

/-! ## The arrays written -/

/-- The first point, or a later one. -/
theorem cases_t (t : Fin cfg0.N) : (t.val % 8 = 0 ∧ ¬1 ≤ t.val) ∨ (¬t.val % 8 = 0 ∧ 1 ≤ t.val) := by
  have : t.val < 8 := t.isLt
  omega

/-- What a point leaves in the blocks that it writes whole. -/
theorem blocks (c : Dev nD) (t : Fin cfg0.N) :
    (dats m 0 c).after 12 t = k0_pay12 (v24 m c t) (v32 m c t) (iblk m c 9 t) (iblk m c 4 t) (iblk m c 5 t)
    ∧ (dats m 0 c).after 13 t = k0_pay8 (iblk m c 0 t) (iblk m c 6 t) (iblk m c 1 t) (iblk m c 7 t) (X0_2 m c t) (X0_3 m c t)
    ∧ (dats m 0 c).after 14 t = k0_pay16 (v24 m c t) (v32 m c t) (iblk m c 9 t) (iblk m c 4 t) (iblk m c 5 t)
    ∧ (dats m 0 c).after 15 t = k0_pay20 (v75 m c t)
    ∧ (dats m 0 c).after 16 t = k0_pay21 (k0_pay6 (X0_3 m c t)) (v74 m c t)
    ∧ (dats m 0 c).after 18 t = k0_pay24 (v75 m c t) (iblk m c 6 t)
    ∧ (dats m 0 c).after 19 t = k0_pay25 (k0_pay6 (X0_3 m c t)) (v74 m c t) (iblk m c 7 t) := by
  rw [after0_12, after0_13, after0_14, after0_15, after0_16, after0_18, after0_19]
  rcases cases_t t with ⟨h, h1⟩ | ⟨h, h1⟩
  · rw [outsAt0_A m c t h h1]
    refine ⟨?_, ?_, ?_, ?_, ?_, ?_, ?_⟩ <;> funext y <;> frame_out
  · rw [outsAt0_B m c t h h1]
    refine ⟨?_, ?_, ?_, ?_, ?_, ?_, ?_⟩ <;> funext y <;> frame_out

/-- A block whose rows are those of an array, read at the array's own index. -/
theorem whole {f : S256x1024.Idx → EReal} {G : S2048x1024.Idx → EReal} {t : Fin cfg0.N} (h : ∀ r k, f (ix2 r k) = G (ix2 (row t r) k))
    (y : S256x1024.Idx) (i : S2048x1024.Idx) (h0 : (i 0).val = t.val * 256 + (y 0).val) (h1 : (i 1).val = (y 1).val) : f y = G i := by
  have hy : y = ix2 (y 0) (y 1) := by blk_ext
  have hi : i = ix2 (row t (y 0)) (y 1) := by blk_ext [row]
  rw [hi]
  exact (congrArg f hy).trans (h _ _)

/-- The kernel leaves the gradient of the layer's output. -/
theorem arr12 (c : Dev nD) : (dats m 0 c).arrAt 12 (cfgs 0).N = DY m c := by
  refine (dats m 0 c).arrAt_eq_of_covers 12 _ (by decide +kernel) fun t hf y => ?_
  blk_simp
  rw [(blocks m c t).1]
  exact whole (p_dy m c t) y _ (by blk_simp [idx t]) (by blk_simp [idx t])

/-- The kernel leaves the merged outputs. -/
theorem arr13 (c : Dev nD) : (dats m 0 c).arrAt 13 (cfgs 0).N = MM m c := by
  refine (dats m 0 c).arrAt_eq_of_covers 13 _ (by decide +kernel) fun t hf y => ?_
  blk_simp
  rw [(blocks m c t).2.1]
  exact whole (p_m m c t) y _ (by blk_simp [idx t]) (by blk_simp [idx t])

/-- The kernel leaves the gradient of the output projection. -/
theorem arr14 (c : Dev nD) : (dats m 0 c).arrAt 14 (cfgs 0).N = DO m c := by
  refine (dats m 0 c).arrAt_eq_of_covers 14 _ (by decide +kernel) fun t hf y => ?_
  blk_simp
  rw [(blocks m c t).2.2.1]
  exact whole (p_do m c t) y _ (by blk_simp [idx t]) (by blk_simp [idx t])

/-- The kernel leaves the gradient of the first mixer's projected output. -/
theorem arr15 (c : Dev nD) : (dats m 0 c).arrAt 15 (cfgs 0).N = DA m c := by
  refine (dats m 0 c).arrAt_eq_of_covers 15 _ (by decide +kernel) fun t hf y => ?_
  blk_simp
  rw [(blocks m c t).2.2.2.1]
  exact whole (p_da m c t) y _ (by blk_simp [idx t]) (by blk_simp [idx t])

/-- The kernel leaves the gradient of the second mixer's projected output. -/
theorem arr16 (c : Dev nD) : (dats m 0 c).arrAt 16 (cfgs 0).N = DB m c := by
  refine (dats m 0 c).arrAt_eq_of_covers 16 _ (by decide +kernel) fun t hf y => ?_
  blk_simp
  rw [(blocks m c t).2.2.2.2.1]
  exact whole (p_db m c t) y _ (by blk_simp [idx t]) (by blk_simp [idx t])

/-- The kernel leaves the gradient of the first mixer's output. -/
theorem arr18 (c : Dev nD) : (dats m 0 c).arrAt 18 (cfgs 0).N = DOG m c := by
  refine (dats m 0 c).arrAt_eq_of_covers 18 _ (by decide +kernel) fun t hf y => ?_
  blk_simp
  rw [(blocks m c t).2.2.2.2.2.1]
  exact whole (p_dog m c t) y _ (by blk_simp [idx t]) (by blk_simp [idx t])

/-- The kernel leaves the gradient of the second mixer's output. -/
theorem arr19 (c : Dev nD) : (dats m 0 c).arrAt 19 (cfgs 0).N = DOB m c := by
  refine (dats m 0 c).arrAt_eq_of_covers 19 _ (by decide +kernel) fun t hf y => ?_
  blk_simp
  rw [(blocks m c t).2.2.2.2.2.2]
  exact whole (p_dob m c t) y _ (by blk_simp [idx t]) (by blk_simp [idx t])

/-- A block stored in two halves of columns, read at an index. -/
theorem halves (p q : FVec Ideal S256x1024 .bf16) (y : S256x2048.Idx) :
    (View.canon (Val := Elt Ideal) (s := S256x2048) (e := .bf16) [⟨Rect.unit ![0, 1024] ![256, 1024] inb_S256x2048_S256x1024_0_1024, q⟩,
      ⟨Rect.unit ![0, 0] ![256, 1024] inb_S256x2048_S256x1024_0_0, p⟩] y : EReal)
    = if h : (y 1).val < 1024 then p (ix2 (y 0) ⟨(y 1).val, h⟩)
      else q (ix2 (y 0) ⟨(y 1).val - 1024, by have : (y 1).val < 2048 := (y 1).isLt; omega⟩) := by
  have hw : (y 1).val < 2048 := (y 1).isLt
  split
  · rename_i h
    have hy : y = (Rect.unit (s := S256x2048) ![0, 0] ![256, 1024] inb_S256x2048_S256x1024_0_0).emb (ix2 (y 0) ⟨(y 1).val, h⟩) := by
      blk_ext
    refine (View.canon_cons_of_not_mem _ _ fun hm => ?_).trans ?_
    · rw [Rect.mem_set_unit] at hm
      have hm1 : 1024 ≤ (y 1).val := (hm 1).1
      omega
    · exact (congrArg (View.canon _) hy).trans (View.canon_cons_emb _ _ _ _)
  · rename_i h
    have hy : y = (Rect.unit (s := S256x2048) ![0, 1024] ![256, 1024] inb_S256x2048_S256x1024_0_1024).emb
        (ix2 (y 0) ⟨(y 1).val - 1024, by omega⟩) := by
      blk_ext
    exact (congrArg (View.canon _) hy).trans (View.canon_cons_emb _ _ _ _)

/-- What a point leaves in the gates' columns: the two gradients side by side. -/
theorem block17 (c : Dev nD) (t : Fin cfg0.N) (y : S256x2048.Idx) : ((dats m 0 c).after 17 t y : EReal)
    = if h : (y 1).val < 1024 then k0_pay22 (k0_pay3 (iblk m c 0 t) (iblk m c 6 t)) (k0_pay5 (X0_2 m c t)) (v74 m c t) (ix2 (y 0) ⟨(y 1).val, h⟩)
      else k0_pay23 (k0_pay4 (iblk m c 1 t) (iblk m c 7 t)) (k0_pay6 (X0_3 m c t)) (v74 m c t)
        (ix2 (y 0) ⟨(y 1).val - 1024, by have : (y 1).val < 2048 := (y 1).isLt; omega⟩) := by
  rw [after0_17]
  rcases cases_t t with ⟨h, h1⟩ | ⟨h, h1⟩
  · rw [outsAt0_A m c t h h1]
    frame_out
    exact halves _ _ y
  · rw [outsAt0_B m c t h h1]
    frame_out
    exact halves _ _ y

/-- The two gates' gradients, side by side in columns 6144 … 8191 of the projections' gradient. -/
def D17 (c : Dev nD) : S2048x9728.Idx → EReal := fun i =>
  if h : 7168 ≤ (i 1).val ∧ (i 1).val < 8192 then DGB m c (ix2 (i 0) ⟨(i 1).val - 7168, by omega⟩)
  else if h : 6144 ≤ (i 1).val ∧ (i 1).val < 7168 then DGA m c (ix2 (i 0) ⟨(i 1).val - 6144, by omega⟩) else 0

/-- Where the block of a point lies in the projections' gradient. -/
theorem emb17 (t : Fin cfg0.N) (y : ((cfg0.win 17).xblock (cfg0.grid.coords t)).Idx) :
    ((win0_17.blk t).view.emb y 0 : ℕ) = t.val * 256 + (y 0).val ∧ ((win0_17.blk t).view.emb y 1 : ℕ) = 6144 + (y 1).val := by
  have hi : win0_17.index t = ![t.val, 3] := (idx t).2.2.2.2.2.2.2.2.2.2.2.2.2.2.2.1
  constructor
  · show win0_17.index t 0 * 256 + 1 * (y 0).val = _
    rw [hi, one_mul]
    rfl
  · show win0_17.index t 1 * 2048 + 1 * (y 1).val = _
    rw [hi, one_mul]
    rfl

/-- The two halves of a point's block are the rows of the two gates' gradients. -/
theorem d17_of (c : Dev nD) (t : Fin cfg0.N) (z : S256x2048.Idx) (i : S2048x9728.Idx) (h0 : (i 0).val = t.val * 256 + (z 0).val)
    (h1 : (i 1).val = 6144 + (z 1).val) : ((dats m 0 c).after 17 t z : EReal) = D17 m c i := by
  have hz : (z 1).val < 2048 := (z 1).isLt
  refine (block17 m c t z).trans ?_
  unfold D17
  by_cases h : (z 1).val < 1024
  · have h2 : ¬(7168 ≤ (i 1).val ∧ (i 1).val < 8192) := by omega
    have h3 : 6144 ≤ (i 1).val ∧ (i 1).val < 7168 := by omega
    rw [dif_neg h2, dif_pos h3]
    refine (dif_pos h).trans ((p_dga m c t _ _).trans ?_)
    blk_ext [row]
  · have h2 : 7168 ≤ (i 1).val ∧ (i 1).val < 8192 := by omega
    rw [dif_pos h2]
    refine (dif_neg h).trans ((p_dgb m c t _ _).trans ?_)
    blk_ext [row]

/-- The kernel leaves the gates' gradients in the columns that it writes. -/
theorem arr17 (c : Dev nD) (i : S2048x9728.Idx) (hi : 6144 ≤ (i 1).val ∧ (i 1).val < 8192) : ((dats m 0 c).arrAt 17 (cfgs 0).N i : EReal) = D17 m c i := by
  refine ((dats m 0 c).arrAt_apply_of_coversWhere 17 (D17 m c) (P := fun i => (i 1).val / 2048 = 3) (fun β => β (1 : Fin _) = 3) (by decide +kernel)
    (fun t hf y => ?_) (fun j => by blk_simp [Pipeline.Window.cell_apply]) i).trans (if_pos (by omega))
  exact d17_of m c t _ _ (emb17 t y).1 (emb17 t y).2

/-- The first point starts the two sums with those of its rows. -/
theorem start (c : Dev nD) (t : Fin cfg0.N) (h : t.val % 8 = 0) (j : Fin 1024) :
    ((outsAt0 m c t.val t.isLt).1 (ix2 0 j) = 0 + (k0_pay13 (v24 m c t) (v32 m c t) (iblk m c 9 t) (iblk m c 4 t) (iblk m c 5 t) : FVec Ideal S1x1024 .f32) (ix2 0 j))
    ∧ ((outsAt0 m c t.val t.isLt).2.1 (ix2 0 j) = 0 + (k0_pay14 (v24 m c t) (v32 m c t) (iblk m c 9 t) (iblk m c 4 t) (iblk m c 5 t) : FVec Ideal S1x1024 .f32) (ix2 0 j)) := by
  rw [outsAt0_A m c t h (by have : t.val < 8 := t.isLt; omega)]
  constructor <;> frame_out <;> exact (zero_add _).symm

/-- Every other point adds the sums of its rows. -/
theorem step (c : Dev nD) (t : Fin cfg0.N) (h : ¬t.val % 8 = 0) (j : Fin 1024) :
    ((outsAt0 m c t.val t.isLt).1 (ix2 0 j) = (outsAt0 m c (t.val - 1) (Nat.lt_of_le_of_lt (Nat.sub_le _ _) t.isLt)).1 (ix2 0 j)
      + (k0_pay13 (v24 m c t) (v32 m c t) (iblk m c 9 t) (iblk m c 4 t) (iblk m c 5 t) : FVec Ideal S1x1024 .f32) (ix2 0 j))
    ∧ ((outsAt0 m c t.val t.isLt).2.1 (ix2 0 j) = (outsAt0 m c (t.val - 1) (Nat.lt_of_le_of_lt (Nat.sub_le _ _) t.isLt)).2.1 (ix2 0 j)
      + (k0_pay14 (v24 m c t) (v32 m c t) (iblk m c 9 t) (iblk m c 4 t) (iblk m c 5 t) : FVec Ideal S1x1024 .f32) (ix2 0 j)) := by
  rw [outsAt0_B m c t h (by omega)]
  constructor
  · frame_out
    unfold k0_pay1
    pointwise
  · frame_out
    unfold k0_pay2
    pointwise

/-- The squares of a column's differences, summed over all rows. -/
def LR (c : Dev nD) : S1x1024.Idx → EReal := fun j => ∑ t : Fin 2048, E m c (ix2 t (j 1)) * E m c (ix2 t (j 1))
/-- The gradient of the norm's weight. -/
def DWP (c : Dev nD) : S1x1024.Idx → EReal := fun j => ∑ t : Fin 2048, DY m c (ix2 t (j 1)) * OUT m c (ix2 t (j 1)) * R m c t

/-- The kernel leaves the column sums of the squared errors. -/
theorem arr10 (c : Dev nD) : (dats m 0 c).arrAt 10 (cfgs 0).N = LR m c := by
  refine (dats m 0 c).arrAt_eq_of_after_last 10 t0_7 (by decide +kernel) _ fun j => ?_
  blk_simp
  rw [after0_10]
  have hj : j = ix2 0 (j 1) := by blk_ext
  rw [hj]
  refine (Pipeline.eq_sum_fin_of_reset_step_apply_last (fun n h (i : Fin 1024) => (outsAt0 m c n h).1 (ix2 0 i)) 8 (fun _ => (0 : EReal)) _
    (fun t h j => (start m c t h j).1) (fun t h j => (step m c t h j).1) (by decide) t0_7 rfl (j 1)).trans ?_
  unfold LR
  refine (zero_add _).trans ((Finset.sum_congr rfl fun p _ => p_loss m c p (j 1)).trans ?_)
  refine Fin.sum_mul_add_congr fun t k hl => ?_
  blk_point [row]

/-- The kernel leaves the gradient of the norm's weight. -/
theorem arr11 (c : Dev nD) : (dats m 0 c).arrAt 11 (cfgs 0).N = DWP m c := by
  refine (dats m 0 c).arrAt_eq_of_after_last 11 t0_7 (by decide +kernel) _ fun j => ?_
  blk_simp
  rw [after0_11]
  have hj : j = ix2 0 (j 1) := by blk_ext
  rw [hj]
  refine (Pipeline.eq_sum_fin_of_reset_step_apply_last (fun n h (i : Fin 1024) => (outsAt0 m c n h).2.1 (ix2 0 i)) 8 (fun _ => (0 : EReal)) _
    (fun t h j => (start m c t h j).2) (fun t h j => (step m c t h j).2) (by decide) t0_7 rfl (j 1)).trans ?_
  unfold DWP
  refine (zero_add _).trans ((Finset.sum_congr rfl fun p _ => p_wp m c p (j 1)).trans ?_)
  refine Fin.sum_mul_add_congr fun t k hl => ?_
  blk_point [row]

end Cert.KernelIdeal.Mid
-- ==== Proof.MidReference.lean ====
module

public import proofs.«01_k».proof.Proof.Gen.ReferenceIdeal.Run
public import Idealize.ShloMosaic.Lib.Pointwise

@[expose] public section

set_option maxRecDepth 16384

noncomputable section

/-! The reference of the merge and the loss head, cut into named steps: each is the reference's own lines over the steps before it. -/

namespace Cert.ReferenceIdeal.Mid

open Cert.ReferenceIdeal Cert.ReferenceIdeal.Gen Idealize.ShloMosaic Idealize.ShloMosaic.TcCoe Idealize.SL.Sem

/-- An array of the tokens' features. -/
abbrev Arr := FVec Ideal S2048x1024 .f32

variable (m : (ℓ : Loc nD τ sig) → Buf (Elt Ideal) ℓ) (c : Dev nD)

/-- The product of an array and a weight. -/
def dot (a : Arr) (w : FVec Ideal S1024x1024 .f32) : Arr := Host.dotGeneral dot_S2048x1024_S1024x1024_S2048x1024_1_0_0_1_n_n none a w
/-- The product of an array and a weight's transpose. -/
def dotT (a : Arr) (w : FVec Ideal S1024x1024 .f32) : Arr := Host.dotGeneral dot_S2048x1024_S1024x1024_S2048x1024_1_1_0_0_n_n none a w
/-- The array of ones. -/
def ones : Arr := broadcastInDim S2048x1024 ![] bcast_S_S2048x1024 (constant S_ .f32 0x3F800000#32)
/-- The sigmoid of an array. -/
def gate (g : Arr) : Arr := Host.divf ones (addf ones (Host.exp (Host.negf g)))
/-- The sigmoid's derivative. -/
def dgate (g : Arr) : Arr := mulf (gate g) (subf ones (gate g))
/-- The first mixer's projected output. -/
def ya : Arr := dot (m ((c.tc : Thread nD τ).loc main_arg0)) (m ((c.tc : Thread nD τ).loc main_arg6))
/-- The second mixer's projected output. -/
def yb : Arr := dot (m ((c.tc : Thread nD τ).loc main_arg1)) (m ((c.tc : Thread nD τ).loc main_arg7))
/-- The merged outputs. -/
def mm : Arr := addf (mulf (gate (m ((c.tc : Thread nD τ).loc main_arg2))) (ya m c)) (mulf (gate (m ((c.tc : Thread nD τ).loc main_arg3))) (yb m c))
/-- The output projection. -/
def out : Arr := dot (mm m c) (m ((c.tc : Thread nD τ).loc main_arg8))
/-- The mean square of a row and the small number. -/
def sq : FVec Ideal S2048x1 .f32 :=
  addf (Host.divf (broadcastInDim S2048x1 ![0] bcast_S2048_S2048x1_0 (Host.reduceAdd (mulf (out m c) (out m c)) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))

/-- The reciprocal roots. -/
def rr : FVec Ideal S2048x1 .f32 := Host.rsqrt (sq m c)
/-- The norm before its weight. -/
def nn : Arr := mulf (out m c) (broadcastInDim S2048x1024 ![0, 1] bcast_S2048x1_S2048x1024_0_1 (rr m c))
/-- The norm's weight, for every token. -/
def wp : Arr := broadcastInDim S2048x1024 ![0, 1] bcast_S1x1024_S2048x1024_0_1 (m ((c.tc : Thread nD τ).loc main_arg9))
/-- The error. -/
def ee : Arr := subf (addf (m ((c.tc : Thread nD τ).loc main_arg4)) (mulf (nn m c) (wp m c))) (m ((c.tc : Thread nD τ).loc main_arg5))
/-- The loss. -/
def loss : FVec Ideal S1x1 .f32 := shapeCast S1x1 (mulf (constant S_ .f32 0x3F000000#32) (Host.reduceAdd (Host.divf
  (Host.reduceAdd (mulf (ee m c) (ee m c)) (constant S_ .f32 0x00000000#32) reducesTo_S2048x1024_S2048_d1 h_S_)
  (broadcastInDim S2048 ![] bcast_S_S2048 (constant S_ .f32 0x44800000#32))) (constant S_ .f32 0x00000000#32) reducesTo_S2048_S_d0 h_S_)) shapeCasts_S_S1x1

/-- The gradient of the layer's output. -/
def dy : Arr := mulf (broadcastInDim S2048x1024 ![0] bcast_S2048_S2048x1024_0 (Host.divf (broadcastInDim S2048 ![] bcast_S_S2048
    (mulf (constant S_ .f32 0x3F000000#32) (constant S_ .f32 0x3F800000#32))) (broadcastInDim S2048 ![] bcast_S_S2048 (constant S_ .f32 0x44800000#32))))
  (mulf (broadcastInDim S2048x1024 ![] bcast_S_S2048x1024 (constant S_ .f32 0x40000000#32)) (ee m c))

/-- The gradient of the norm's weight. -/
def dwp : FVec Ideal S1x1024 .f32 := shapeCast S1x1024 (Host.reduceAdd (mulf (nn m c) (dy m c)) (constant S_ .f32 0x00000000#32)
  reducesTo_S2048x1024_S1024_d0 h_S_) shapeCasts_S1024_S1x1024
/-- The gradient of the norm before its weight. -/
def dn : Arr := mulf (dy m c) (wp m c)
/-- The gradient of a row's mean square, over the features. -/
def dsq : FVec Ideal S2048 .f32 := Host.reduceAdd (Host.divf (mulf (shapeCast S2048x1 (Host.reduceAdd (mulf (out m c) (dn m c)) (constant S_ .f32 0x00000000#32)
    reducesTo_S2048x1024_S2048_d1 h_S_) shapeCasts_S2048_S2048x1)
    (mulf (broadcastInDim S2048x1 ![] bcast_S_S2048x1 (constant S_ .f32 0xBF000000#32)) (Host.divf (rr m c) (sq m c))))
  (broadcastInDim S2048x1 ![] bcast_S_S2048x1 (constant S_ .f32 0x44800000#32))) (constant S_ .f32 0x00000000#32) reducesTo_S2048x1_S2048_d1 h_S_

/-- The gradient of the output projection. -/
def dout : Arr := addf (addf (mulf (dn m c) (broadcastInDim S2048x1024 ![0, 1] bcast_S2048x1_S2048x1024_0_1 (rr m c)))
    (mulf (out m c) (broadcastInDim S2048x1024 ![0] bcast_S2048_S2048x1024_0 (dsq m c))))
  (mulf (broadcastInDim S2048x1024 ![0] bcast_S2048_S2048x1024_0 (dsq m c)) (out m c))

/-- The gradient of the merged outputs. -/
def dm : Arr := dotT (dout m c) (m ((c.tc : Thread nD τ).loc main_arg8))
/-- The gradient of the first mixer's projected output. -/
def da : Arr := mulf (gate (m ((c.tc : Thread nD τ).loc main_arg2))) (dm m c)
/-- The gradient of the second mixer's projected output. -/
def db : Arr := mulf (gate (m ((c.tc : Thread nD τ).loc main_arg3))) (dm m c)
/-- The gradient of the first gate. -/
def dga : Arr := mulf (mulf (dm m c) (ya m c)) (dgate (m ((c.tc : Thread nD τ).loc main_arg2)))
/-- The gradient of the second gate. -/
def dgb : Arr := mulf (mulf (dm m c) (yb m c)) (dgate (m ((c.tc : Thread nD τ).loc main_arg3)))
/-- The gradient of the first mixer's output. -/
def dog : Arr := dotT (da m c) (m ((c.tc : Thread nD τ).loc main_arg6))
/-- The gradient of the second mixer's output. -/
def dob : Arr := dotT (db m c) (m ((c.tc : Thread nD τ).loc main_arg7))

end Cert.ReferenceIdeal.Mid
-- ==== Proof.MidClaim.lean ====
module

public import proofs.«01_k».proof.Proof.Mid
public import proofs.«01_k».proof.Proof.MidReference

@[expose] public section

set_option maxRecDepth 16384

noncomputable section

namespace Cert.KernelIdeal.Mid

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)
variable (m' : (ℓ : Loc ReferenceIdeal.nD ReferenceIdeal.τ ReferenceIdeal.sig) → Buf (Elt Ideal) ℓ)

/-! ## The reference's steps are the kernel's -/

/-- The two programs start with the same arguments. -/
def Agree (c : Dev nD) : Prop :=
  m' ((c.tc : Thread ReferenceIdeal.nD ReferenceIdeal.τ).loc ReferenceIdeal.main_arg0) = OG m c
  ∧ m' ((c.tc : Thread ReferenceIdeal.nD ReferenceIdeal.τ).loc ReferenceIdeal.main_arg1) = OB m c
  ∧ m' ((c.tc : Thread ReferenceIdeal.nD ReferenceIdeal.τ).loc ReferenceIdeal.main_arg2) = GA m c
  ∧ m' ((c.tc : Thread ReferenceIdeal.nD ReferenceIdeal.τ).loc ReferenceIdeal.main_arg3) = GB m c
  ∧ m' ((c.tc : Thread ReferenceIdeal.nD ReferenceIdeal.τ).loc ReferenceIdeal.main_arg4) = XX m c
  ∧ m' ((c.tc : Thread ReferenceIdeal.nD ReferenceIdeal.τ).loc ReferenceIdeal.main_arg5) = TT m c
  ∧ m' ((c.tc : Thread ReferenceIdeal.nD ReferenceIdeal.τ).loc ReferenceIdeal.main_arg6) = WG m c
  ∧ m' ((c.tc : Thread ReferenceIdeal.nD ReferenceIdeal.τ).loc ReferenceIdeal.main_arg7) = WL m c
  ∧ m' ((c.tc : Thread ReferenceIdeal.nD ReferenceIdeal.τ).loc ReferenceIdeal.main_arg8) = WO m c
  ∧ m' ((c.tc : Thread ReferenceIdeal.nD ReferenceIdeal.τ).loc ReferenceIdeal.main_arg9) = WP m c

section
open ReferenceIdeal.Mid (dot dotT gate dgate ones)

/-- A product entry by entry. -/
theorem dot_apply (a : S2048x1024.Idx → EReal) (w : S1024x1024.Idx → EReal) (i : S2048x1024.Idx) :
    (dot a w i : EReal) = ∑ k : Fin 1024, a (ix2 (i 0) k) * w (ix2 k (i 1)) := by
  unfold dot
  pointwise

/-- A product with a transposed factor, entry by entry. -/
theorem dotT_apply (a : S2048x1024.Idx → EReal) (w : S1024x1024.Idx → EReal) (i : S2048x1024.Idx) :
    (dotT a w i : EReal) = ∑ k : Fin 1024, a (ix2 (i 0) k) * w (ix2 (i 1) k) := by
  unfold dotT
  pointwise

/-- The reference's sigmoid is the logistic function. -/
theorem gate_apply (g : S2048x1024.Idx → EReal) (i : S2048x1024.Idx) : (gate g i : EReal) = Ideal.logistic (g i) := by
  unfold gate ones Ideal.logistic
  pointwise

end

variable {m m'} {c : Dev nD} (h : Agree m m' c)
include h

/-- The first mixer's projected output: in the reference what it is in the kernel. -/
theorem ya_eq : (ReferenceIdeal.Mid.ya m' c : S2048x1024.Idx → EReal) = YA m c := by
  unfold ReferenceIdeal.Mid.ya
  rw [h.1, h.2.2.2.2.2.2.1]
  exact funext fun i => dot_apply _ _ i

/-- The second mixer's projected output: in the reference what it is in the kernel. -/
theorem yb_eq : (ReferenceIdeal.Mid.yb m' c : S2048x1024.Idx → EReal) = YB m c := by
  unfold ReferenceIdeal.Mid.yb
  rw [h.2.1, h.2.2.2.2.2.2.2.1]
  exact funext fun i => dot_apply _ _ i

/-- The merged outputs: in the reference what it is in the kernel. -/
theorem mm_eq : (ReferenceIdeal.Mid.mm m' c : S2048x1024.Idx → EReal) = MM m c := by
  unfold ReferenceIdeal.Mid.mm MM SA SB
  rw [ya_eq h, yb_eq h, h.2.2.1, h.2.2.2.1]
  funext i
  pointwise
  rw [gate_apply, gate_apply]

/-- The output projection: in the reference what it is in the kernel. -/
theorem out_eq : (ReferenceIdeal.Mid.out m' c : S2048x1024.Idx → EReal) = OUT m c := by
  unfold ReferenceIdeal.Mid.out
  rw [mm_eq h, h.2.2.2.2.2.2.2.2.1]
  exact funext fun i => dot_apply _ _ i

/-- The mean squares: in the reference what it is in the kernel. -/
theorem sq_eq (t : Fin 2048) : (ReferenceIdeal.Mid.sq m' c (ix2 t 0) : EReal) = SQ m c t := by
  unfold ReferenceIdeal.Mid.sq SQ
  rw [out_eq h]
  pointwise

/-- The reciprocal roots: in the reference what it is in the kernel. -/
theorem rr_eq (t : Fin 2048) : (ReferenceIdeal.Mid.rr m' c (ix2 t 0) : EReal) = R m c t := by
  unfold ReferenceIdeal.Mid.rr R
  pointwise
  rw [sq_eq h]

/-- The normed output: in the reference what it is in the kernel. -/
theorem nn_eq (i : S2048x1024.Idx) : (ReferenceIdeal.Mid.nn m' c i : EReal) = OUT m c i * R m c (i 0) := by
  unfold ReferenceIdeal.Mid.nn
  rw [out_eq h]
  pointwise
  exact congrArg (OUT m c i * ·) (rr_eq h (i 0))

/-- The norm's weight in every row: in the reference what it is in the kernel. -/
theorem wp_eq (i : S2048x1024.Idx) : (ReferenceIdeal.Mid.wp m' c i : EReal) = WP m c (ix2 0 (i 1)) := by
  unfold ReferenceIdeal.Mid.wp
  rw [h.2.2.2.2.2.2.2.2.2]
  pointwise

/-- The error: in the reference what it is in the kernel. -/
theorem ee_eq : (ReferenceIdeal.Mid.ee m' c : S2048x1024.Idx → EReal) = E m c := by
  unfold ReferenceIdeal.Mid.ee E
  rw [h.2.2.2.2.1, h.2.2.2.2.2.1]
  funext i
  pointwise
  rw [nn_eq h, wp_eq h]

/-- The gradient of the layer's output: in the reference what it is in the kernel. -/
theorem dy_eq : (ReferenceIdeal.Mid.dy m' c : S2048x1024.Idx → EReal) = DY m c := by
  unfold ReferenceIdeal.Mid.dy DY
  rw [ee_eq h]
  funext i
  pointwise
  exact Roots.half_double_mean _

/-- The gradient of the normed output: in the reference what it is in the kernel. -/
theorem dn_eq (i : S2048x1024.Idx) : (ReferenceIdeal.Mid.dn m' c i : EReal) = DY m c i * WP m c (ix2 0 (i 1)) := by
  unfold ReferenceIdeal.Mid.dn
  rw [dy_eq h]
  pointwise
  rw [wp_eq h]

/-- The gradient of the norm's weight: in the reference what it is in the kernel. -/
theorem dwp_eq : (ReferenceIdeal.Mid.dwp m' c : S1x1024.Idx → EReal) = DWP m c := by
  unfold ReferenceIdeal.Mid.dwp DWP
  rw [dy_eq h]
  funext i
  pointwise
  exact Finset.sum_congr rfl fun t _ => by rw [nn_eq h, mul_right_comm, mul_comm (OUT m c _)]; rfl

/-- The gradient of the mean squares: in the reference what it is in the kernel. -/
theorem dsq_eq (t : Fin 2048) : (ReferenceIdeal.Mid.dsq m' c (ix1 t) : EReal)
    = ∑ _k : Fin 1, Ideal.div ((∑ k : Fin 1024, DY m c (ix2 t k) * WP m c (ix2 0 k) * OUT m c (ix2 t k))
      * (Ideal.ofBits .f32 0xBF000000#32 * Ideal.div (Ideal.rsqrt (SQ m c t)) (SQ m c t))) (Ideal.ofBits .f32 0x44800000#32) := by
  have hS : ∑ k : Fin 1024, OUT m c (ix2 t k) * ReferenceIdeal.Mid.dn m' c (ix2 t k)
      = ∑ k : Fin 1024, DY m c (ix2 t k) * WP m c (ix2 0 k) * OUT m c (ix2 t k) :=
    Finset.sum_congr rfl fun k _ => (mul_comm _ _).trans (congrArg (· * _) (dn_eq h (ix2 t k)))
  have hR : (ReferenceIdeal.Mid.rr m' c (ix2 t 0) : EReal) = Ideal.rsqrt (SQ m c t) := rr_eq h t
  rw [← hS, ← hR, ← sq_eq h t]
  unfold ReferenceIdeal.Mid.dsq
  rw [out_eq h]
  pointwise
  exact Finset.sum_congr rfl fun x _ => by obtain rfl : x = 0 := Subsingleton.elim _ _; rfl

/-- The gradient of the output projection: in the reference what it is in the kernel. -/
theorem dout_eq : (ReferenceIdeal.Mid.dout m' c : S2048x1024.Idx → EReal) = DO m c := by
  unfold ReferenceIdeal.Mid.dout DO
  rw [out_eq h]
  funext i
  pointwise
  have hn := Roots.norm_term 0 (DY m c i * WP m c (ix2 0 (i 1))) (OUT m c i)
    (∑ k : Fin 1024, DY m c (ix2 (i 0) k) * WP m c (ix2 0 k) * OUT m c (ix2 (i 0) k)) (SQ m c (i 0)) (Roots.square_pos fun k => OUT m c (ix2 (i 0) k))
  rw [zero_add, zero_add] at hn
  rw [dn_eq h i]
  refine Eq.trans ?_ hn
  exact congrArg₂ (fun r s => DY m c i * WP m c (ix2 0 (i 1)) * r + OUT m c i * s + s * OUT m c i) (rr_eq h (i 0)) (dsq_eq h (i 0))

/-- The gradient of the merged outputs: in the reference what it is in the kernel. -/
theorem dm_eq : (ReferenceIdeal.Mid.dm m' c : S2048x1024.Idx → EReal) = DM m c := by
  unfold ReferenceIdeal.Mid.dm
  rw [dout_eq h, h.2.2.2.2.2.2.2.2.1]
  exact funext fun i => dotT_apply _ _ i

/-- The gradient of the first mixer's projected output: in the reference what it is in the kernel. -/
theorem da_eq : (ReferenceIdeal.Mid.da m' c : S2048x1024.Idx → EReal) = DA m c := by
  unfold ReferenceIdeal.Mid.da DA SA
  rw [dm_eq h, h.2.2.1]
  funext i
  pointwise
  rw [gate_apply, mul_comm]

/-- The gradient of the second mixer's projected output: in the reference what it is in the kernel. -/
theorem db_eq : (ReferenceIdeal.Mid.db m' c : S2048x1024.Idx → EReal) = DB m c := by
  unfold ReferenceIdeal.Mid.db DB SB
  rw [dm_eq h, h.2.2.2.1]
  funext i
  pointwise
  rw [gate_apply, mul_comm]

/-- The gradient of the first gate: in the reference what it is in the kernel. -/
theorem dga_eq : (ReferenceIdeal.Mid.dga m' c : S2048x1024.Idx → EReal) = DGA m c := by
  unfold ReferenceIdeal.Mid.dga DGA SA ReferenceIdeal.Mid.dgate ReferenceIdeal.Mid.ones
  rw [dm_eq h, ya_eq h, h.2.2.1, Ideal.ofBits_one_f32]
  funext i
  pointwise
  rw [gate_apply, mul_assoc (DM m c i * YA m c i)]

/-- The gradient of the second gate: in the reference what it is in the kernel. -/
theorem dgb_eq : (ReferenceIdeal.Mid.dgb m' c : S2048x1024.Idx → EReal) = DGB m c := by
  unfold ReferenceIdeal.Mid.dgb DGB SB ReferenceIdeal.Mid.dgate ReferenceIdeal.Mid.ones
  rw [dm_eq h, yb_eq h, h.2.2.2.1, Ideal.ofBits_one_f32]
  funext i
  pointwise
  rw [gate_apply, mul_assoc (DM m c i * YB m c i)]

/-- The gradient of the first mixer's output: in the reference what it is in the kernel. -/
theorem dog_eq : (ReferenceIdeal.Mid.dog m' c : S2048x1024.Idx → EReal) = DOG m c := by
  unfold ReferenceIdeal.Mid.dog
  rw [da_eq h, h.2.2.2.2.2.2.1]
  exact funext fun i => dotT_apply _ _ i

/-- The gradient of the second mixer's output: in the reference what it is in the kernel. -/
theorem dob_eq : (ReferenceIdeal.Mid.dob m' c : S2048x1024.Idx → EReal) = DOB m c := by
  unfold ReferenceIdeal.Mid.dob
  rw [db_eq h, h.2.2.2.2.2.2.2.1]
  exact funext fun i => dotT_apply _ _ i

omit h in
variable (m c) in
/-- The loss, from its row of column sums. -/
def LOSS : S1x1.Idx → EReal := fun _ =>
  Ideal.ofBits .f32 0x3F000000#32 * (∑ k : Fin 1024, ∑ t : Fin 2048, E m c (ix2 t k) * E m c (ix2 t k)) * Ideal.ofBits .f32 0x3A800000#32

/-- The loss: in the reference what it is in the kernel. -/
theorem loss_eq : (ReferenceIdeal.Mid.loss m' c : S1x1.Idx → EReal) = LOSS m c := by
  unfold ReferenceIdeal.Mid.loss LOSS
  rw [ee_eq h]
  funext i
  pointwise
  exact Roots.half_mean_sum fun t k => E m c (ix2 t k)

/-! ## The lines after the kernel -/

omit h
variable (m c)

/-- The lines after the kernel find each of its arrays as the kernel leaves it. -/
theorem left (w : Fin (cfgs 0).W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr_shared (cfgs 0).spec c (V0 m c) _
    ((dats m 0 c).arrAt_sharedIn sharedIn0 (V0 m c) (A_eq m c) (cfgs 0).N) w

/-- The loss out of the row of its sums: half their sum, over the number of targets. -/
theorem loss_row : (mulf (mulf (broadcastInDim S1x1 ![] Gen.facts.bcast_S_S1x1 (constant S_ .f32 1056964608#32))
    (broadcastInDim S1x1 ![0] Gen.facts.bcast_S1_S1x1_0 (Host.reduceAdd (LR m c : FVec Ideal S1x1024 .f32) (constant S_ .f32 0#32)
      Gen.facts.reducesTo_S1x1024_S1_d1 Gen.facts.h_S_)))
    (broadcastInDim S1x1 ![] Gen.facts.bcast_S_S1x1 (constant S_ .f32 981467136#32)) : FVec Ideal S1x1 .f32) = LOSS m c := by
  funext i
  pointwise
  rfl

/-- The loss, after the kernel's lines. -/
theorem tail_loss : Pipeline.afterTail₀ cfgs (dats m) 0 (V0 m) [hostOps1] c main_v14 = LOSS m c := by
  have hw := left m c 10
  rw [arr10 m c] at hw
  show StableHlo.after hostOps1 (Pipeline.withArrays (cfgs 0).spec c (V0 m c) fun w => (dats m 0 c).arrAt w (cfgs 0).N) (Proc.devRef .tc main_v14) = _
  generalize Pipeline.withArrays (cfgs 0).spec c (V0 m c) (fun w => (dats m 0 c).arrAt w (cfgs 0).N) = B at hw ⊢
  after_results
  rw [← loss_row, ← hw]

/-- The four arrays that the kernel returns rounded, after the lines that widen them. -/
theorem tail_m : Pipeline.afterTail₀ cfgs (dats m) 0 (V0 m) [hostOps1] c main_v15 = MM m c
    ∧ Pipeline.afterTail₀ cfgs (dats m) 0 (V0 m) [hostOps1] c main_v16 = DO m c
    ∧ Pipeline.afterTail₀ cfgs (dats m) 0 (V0 m) [hostOps1] c main_v17 = DA m c
    ∧ Pipeline.afterTail₀ cfgs (dats m) 0 (V0 m) [hostOps1] c main_v18 = DB m c := by
  have h13 := left m c 13
  have h14 := left m c 14
  have h15 := left m c 15
  have h16 := left m c 16
  rw [arr13 m c] at h13
  rw [arr14 m c] at h14
  rw [arr15 m c] at h15
  rw [arr16 m c] at h16
  refine ⟨?_, ?_, ?_, ?_⟩
  · show StableHlo.after hostOps1 (Pipeline.withArrays (cfgs 0).spec c (V0 m c) fun w => (dats m 0 c).arrAt w (cfgs 0).N) (Proc.devRef .tc main_v15) = _
    generalize Pipeline.withArrays (cfgs 0).spec c (V0 m c) (fun w => (dats m 0 c).arrAt w (cfgs 0).N) = B at h13 ⊢
    after_results
    rw [← h13]
    rfl
  · show StableHlo.after hostOps1 (Pipeline.withArrays (cfgs 0).spec c (V0 m c) fun w => (dats m 0 c).arrAt w (cfgs 0).N) (Proc.devRef .tc main_v16) = _
    generalize Pipeline.withArrays (cfgs 0).spec c (V0 m c) (fun w => (dats m 0 c).arrAt w (cfgs 0).N) = B at h14 ⊢
    after_results
    rw [← h14]
    rfl
  · show StableHlo.after hostOps1 (Pipeline.withArrays (cfgs 0).spec c (V0 m c) fun w => (dats m 0 c).arrAt w (cfgs 0).N) (Proc.devRef .tc main_v17) = _
    generalize Pipeline.withArrays (cfgs 0).spec c (V0 m c) (fun w => (dats m 0 c).arrAt w (cfgs 0).N) = B at h15 ⊢
    after_results
    rw [← h15]
    rfl
  · show StableHlo.after hostOps1 (Pipeline.withArrays (cfgs 0).spec c (V0 m c) fun w => (dats m 0 c).arrAt w (cfgs 0).N) (Proc.devRef .tc main_v18) = _
    generalize Pipeline.withArrays (cfgs 0).spec c (V0 m c) (fun w => (dats m 0 c).arrAt w (cfgs 0).N) = B at h16 ⊢
    after_results
    rw [← h16]
    rfl

/-- An index from its row and a column equal to its own. -/
theorem place (i : S2048x1024.Idx) (j : Fin 1024) (hj : j.val = (i 1).val) : (ix2 (i 0) j : S2048x1024.Idx) = i := by
  obtain rfl : j = i 1 := Fin.ext hj
  funext k
  match k with
  | 0 => rfl
  | 1 => rfl

/-- The gradients of the gates, cut out of the projections' gradient. -/
theorem tail_gates : Pipeline.afterTail₀ cfgs (dats m) 0 (V0 m) [hostOps1] c main_v20 = DGA m c
    ∧ Pipeline.afterTail₀ cfgs (dats m) 0 (V0 m) [hostOps1] c main_v21 = DGB m c := by
  have hw := left m c 17
  have h17 := arr17 m c
  constructor
  · show StableHlo.after hostOps1 (Pipeline.withArrays (cfgs 0).spec c (V0 m c) fun w => (dats m 0 c).arrAt w (cfgs 0).N) (Proc.devRef .tc main_v20) = _
    generalize Pipeline.withArrays (cfgs 0).spec c (V0 m c) (fun w => (dats m 0 c).arrAt w (cfgs 0).N) = B at hw ⊢
    after_results
    funext i
    pointwise
    refine (congrFun hw _).trans ((arr17 m c _ ⟨?_, ?_⟩).trans ?_)
    · show 6144 ≤ 6144 + (i 1).val
      omega
    · show 6144 + (i 1).val < 8192
      have := (i 1).isLt
      change (i 1).val < 1024 at this
      omega
    · unfold D17
      have h1 : ¬(7168 ≤ 6144 + (i 1).val ∧ 6144 + (i 1).val < 8192) := by
        have := (i 1).isLt
        change (i 1).val < 1024 at this
        omega
      have h2 : 6144 ≤ 6144 + (i 1).val ∧ 6144 + (i 1).val < 7168 := by
        have := (i 1).isLt
        change (i 1).val < 1024 at this
        omega
      exact (dif_neg h1).trans ((dif_pos h2).trans (congrArg (DGA m c) (place i _ (Nat.add_sub_cancel_left 6144 _))))
  · show StableHlo.after hostOps1 (Pipeline.withArrays (cfgs 0).spec c (V0 m c) fun w => (dats m 0 c).arrAt w (cfgs 0).N) (Proc.devRef .tc main_v21) = _
    generalize Pipeline.withArrays (cfgs 0).spec c (V0 m c) (fun w => (dats m 0 c).arrAt w (cfgs 0).N) = B at hw ⊢
    after_results
    funext i
    pointwise
    refine (congrFun hw _).trans ((arr17 m c _ ⟨?_, ?_⟩).trans ?_)
    · show 6144 ≤ 7168 + (i 1).val
      omega
    · show 7168 + (i 1).val < 8192
      have := (i 1).isLt
      change (i 1).val < 1024 at this
      omega
    · unfold D17
      have h1 : 7168 ≤ 7168 + (i 1).val ∧ 7168 + (i 1).val < 8192 := by
        have := (i 1).isLt
        change (i 1).val < 1024 at this
        omega
      exact (dif_pos h1).trans (congrArg (DGB m c) (place i _ (Nat.add_sub_cancel_left 7168 _)))

/-- The run of the program: the loss, then the gradients in the order the call returns them. -/
theorem run : θ_run defs (onTc (τ := τ) (main (F := Ideal))) ⟨m, fun _ => 0, ρ⟩ fun r => ∀ c : Dev nD,
    r.2.mem ((c : Thread nD τ).loc main_v14) = LOSS m c ∧ r.2.mem ((c : Thread nD τ).loc main_v8_1) = DWP m c
      ∧ r.2.mem ((c : Thread nD τ).loc main_v8_2) = DY m c ∧ r.2.mem ((c : Thread nD τ).loc main_v15) = MM m c
      ∧ r.2.mem ((c : Thread nD τ).loc main_v16) = DO m c ∧ r.2.mem ((c : Thread nD τ).loc main_v17) = DA m c
      ∧ r.2.mem ((c : Thread nD τ).loc main_v18) = DB m c ∧ r.2.mem ((c : Thread nD τ).loc main_v20) = DGA m c
      ∧ r.2.mem ((c : Thread nD τ).loc main_v21) = DGB m c ∧ r.2.mem ((c : Thread nD τ).loc main_v8_8) = DOG m c
      ∧ r.2.mem ((c : Thread nD τ).loc main_v8_9) = DOB m c :=
  (θ_run defs _ _).mono (fun r h c =>
    ⟨((h c).2 main_v14 (Pipeline.mem_restRefs_of main_v14 (by decide) (by decide))).trans (tail_loss m c),
      ((h c).1 11).trans (arr11 m c), ((h c).1 12).trans (arr12 m c),
      ((h c).2 main_v15 (Pipeline.mem_restRefs_of main_v15 (by decide) (by decide))).trans (tail_m m c).1,
      ((h c).2 main_v16 (Pipeline.mem_restRefs_of main_v16 (by decide) (by decide))).trans (tail_m m c).2.1,
      ((h c).2 main_v17 (Pipeline.mem_restRefs_of main_v17 (by decide) (by decide))).trans (tail_m m c).2.2.1,
      ((h c).2 main_v18 (Pipeline.mem_restRefs_of main_v18 (by decide) (by decide))).trans (tail_m m c).2.2.2,
      ((h c).2 main_v20 (Pipeline.mem_restRefs_of main_v20 (by decide) (by decide))).trans (tail_gates m c).1,
      ((h c).2 main_v21 (Pipeline.mem_restRefs_of main_v21 (by decide) (by decide))).trans (tail_gates m c).2,
      ((h c).1 18).trans (arr18 m c), ((h c).1 19).trans (arr19 m c)⟩) (run_main m ρ)

/-- The middle of the step, from the two attention outputs to the loss and back: kernel and reference end with the same arrays. -/
theorem algebraic : algebraic_KernelIdeal_ReferenceIdeal (hKernelIdeal := KernelIdeal.Gen.facts) (hReferenceIdeal := ReferenceIdeal.Gen.facts) := by
  intro m g m' g' _ hagree
  refine ⟨_, _, _, _, _, _, _, _, _, _, _, (θ_run _ _ _).mono (fun r h c => ⟨(h.1 c).1, (h.1 c).2.1, (h.1 c).2.2.1, (h.1 c).2.2.2.1,
      (h.1 c).2.2.2.2.1, (h.1 c).2.2.2.2.2.1, (h.1 c).2.2.2.2.2.2.1, (h.1 c).2.2.2.2.2.2.2.1, (h.1 c).2.2.2.2.2.2.2.2.1,
      (h.1 c).2.2.2.2.2.2.2.2.2.1, (h.1 c).2.2.2.2.2.2.2.2.2.2, h.2 c⟩)
      (θ_run_and (run m g) (KernelIdeal.Gen.unchanged m g)),
    (θ_run _ _ _).mono (fun r h c => ⟨(h c).1.trans (loss_eq (hagree c)), (h c).2.1.trans (dwp_eq (hagree c)),
      (h c).2.2.1.trans (dy_eq (hagree c)), (h c).2.2.2.1.trans (mm_eq (hagree c)), (h c).2.2.2.2.1.trans (dout_eq (hagree c)),
      (h c).2.2.2.2.2.1.trans (da_eq (hagree c)), (h c).2.2.2.2.2.2.1.trans (db_eq (hagree c)),
      (h c).2.2.2.2.2.2.2.1.trans (dga_eq (hagree c)), (h c).2.2.2.2.2.2.2.2.1.trans (dgb_eq (hagree c)),
      (h c).2.2.2.2.2.2.2.2.2.1.trans (dog_eq (hagree c)), (h c).2.2.2.2.2.2.2.2.2.2.1.trans (dob_eq (hagree c)),
      (h c).2.2.2.2.2.2.2.2.2.2.2⟩) (ReferenceIdeal.Value.run m' g')⟩

end Cert.KernelIdeal.Mid
-- ==== Proof.Gate.lean ====
module

public import proofs.«01_k».proof.Proof.Roots
public import Idealize.ShloMosaic.Lib.Pointwise

@[expose] public section

noncomputable section

/-! The norm of one head and its gate: what the backward pass computes of one row of one head, and why the kernel's form of it is the
product rule's. -/

namespace Cert.Gate

open Idealize.ShloMosaic

/-- The sizes of a head in the two mixers, as the programs write them. -/
theorem ofBits_128 : Ideal.ofBits .f32 0x43000000#32 = ((128 : ℝ) : EReal) := by
  simp [Ideal.ofBits, Ideal.ieee, -EReal.coe_mul]; norm_num
/-- The size of a head in the second mixer. -/
theorem ofBits_256 : Ideal.ofBits .f32 0x43800000#32 = ((256 : ℝ) : EReal) := by
  simp [Ideal.ofBits, Ideal.ieee, -EReal.coe_mul]; norm_num

variable {n : ℕ}

/-- The mean square of a head's row, and the small number. -/
def meanSq (D : EReal) (o : Fin n → EReal) : EReal := Ideal.div (∑ k, o k * o k) D + Ideal.ofBits .f32 0x358637BD#32
/-- The reciprocal root of the mean square. -/
def inv (D : EReal) (o : Fin n → EReal) : EReal := Ideal.rsqrt (meanSq D o)
/-- The gate: a number times its sigmoid. -/
def silu (z : EReal) : EReal := z * Ideal.logistic z
/-- The gradient of the normed row before its weight. -/
def up (z dy w : Fin n → EReal) (j : Fin n) : EReal := dy j * silu (z j) * w j
/-- The gradient of the row that is normed. -/
def dRow (D : EReal) (o z dy w : Fin n → EReal) (j : Fin n) : EReal :=
  inv D o * up z dy w j - o j * (inv D o * inv D o * inv D o) * Ideal.div (∑ k, up z dy w k * o k) D
/-- The gradient of the gate's argument. -/
def dGate (D : EReal) (o z dy w : Fin n → EReal) (j : Fin n) : EReal :=
  dy j * (o j * inv D o) * w j * (Ideal.logistic (z j) * (1 + z j * (1 - Ideal.logistic (z j))))
/-- The row's part in the gradient of the weight. -/
def dWeight (D : EReal) (o z dy : Fin n → EReal) (j : Fin n) : EReal := dy j * silu (z j) * (o j * inv D o)

/-- The row's gradient as the product rule writes it. -/
theorem dRow_eq {d : ℝ} (hd : 0 < d) (o z dy w : Fin n → EReal) (j : Fin n) (q : EReal)
    (hq : q = Ideal.div ((∑ k, o k * up z dy w k) * (Ideal.ofBits .f32 0xBF000000#32 * Ideal.div (inv d o) (meanSq d o))) d) :
    up z dy w j * inv d o + o j * q + q * o j = dRow d o z dy w j := by
  have hS : ∑ k, up z dy w k * o k = ∑ k, o k * up z dy w k := Finset.sum_congr rfl fun k _ => mul_comm _ _
  have h := Roots.mean_term (o j) (∑ k, o k * up z dy w k) (meanSq d o) (Roots.square_pos_of o hd) hd
  unfold dRow
  rw [hS, sub_eq_add_neg, mul_comm (inv (d : EReal) o), add_assoc, hq]
  exact congrArg (up z dy w j * inv d o + ·) h

/-- A normed entry is a real number, whatever the row holds: an infinite entry makes the reciprocal root zero. -/
theorem normed_real {d : ℝ} (hd : 0 < d) (o : Fin n → EReal) (j : Fin n) : ∃ x : ℝ, o j * inv d o = (x : EReal) := by
  have hp : 0 < meanSq d o := Roots.square_pos_of o hd
  have hj : o j * o j ≤ ∑ k, o k * o k :=
    Finset.single_le_sum (f := fun k => o k * o k) (fun k _ => Roots.mul_self_nonneg (o k)) (Finset.mem_univ j)
  have htop : o j * o j = ⊤ → inv d o = 0 := fun h => by
    obtain ⟨e, _, he⟩ := Roots.eps_pos
    have hs : ∑ k, o k * o k = ⊤ := top_le_iff.mp (h ▸ hj)
    unfold inv meanSq
    rw [hs, he, Ideal.div_coe hd.ne', EReal.top_mul_coe_of_pos (one_div_pos.mpr hd), EReal.top_add_coe]
    rfl
  induction hx : o j with
  | bot => exact ⟨0, by rw [htop (by rw [hx]; rfl), mul_zero]; rfl⟩
  | top => exact ⟨0, by rw [htop (by rw [hx]; rfl), mul_zero]; rfl⟩
  | coe x =>
    unfold inv
    induction hm : meanSq (d : EReal) o with
    | bot => rw [hm] at hp; exact absurd hp (by simp)
    | top => exact ⟨0, by rw [show Ideal.rsqrt ⊤ = 0 from rfl, mul_zero]; rfl⟩
    | coe s =>
      have h : 0 < s := by rw [hm] at hp; exact_mod_cast hp
      rw [Ideal.rsqrt_coe, if_neg (not_lt.mpr h.le), if_neg h.ne']
      exact ⟨_, (EReal.coe_mul _ _).symm⟩

/-- The gate's derivative, for a real gradient: the product rule's two terms are the kernel's one. -/
theorem gate_term (ct : ℝ) (z : EReal) :
    (ct : EReal) * Ideal.logistic z + z * ct * (Ideal.logistic z * (1 - Ideal.logistic z))
      = ct * (Ideal.logistic z * (1 + z * (1 - Ideal.logistic z))) := by
  induction z with
  | bot => rw [Ideal.logistic_bot]; simp
  | top =>
    rw [Ideal.logistic_top, show (1 : EReal) - 1 = 0 from EReal.sub_self (by decide) (by decide)]
    simp
  | coe z =>
    rw [Ideal.logistic_coe]
    norm_cast
    ring

/-- The gate's gradient as the product rule writes it. -/
theorem dGate_eq {d : ℝ} (hd : 0 < d) (o z dy w : Fin n → EReal) (j : Fin n) (hy : ∃ y : ℝ, dy j = y) (hw : ∃ y : ℝ, w j = y) :
    o j * inv d o * w j * dy j * Ideal.logistic (z j)
        + z j * (o j * inv d o * w j * dy j) * (Ideal.logistic (z j) * (1 - Ideal.logistic (z j)))
      = dGate d o z dy w j := by
  obtain ⟨x, hx⟩ := normed_real hd o j
  obtain ⟨y, hy⟩ := hy
  obtain ⟨v, hv⟩ := hw
  unfold dGate
  rw [hx, hy, hv, ← EReal.coe_mul, ← EReal.coe_mul, ← EReal.coe_mul, ← EReal.coe_mul, gate_term]
  congr 2
  ring

/-- A number whose size is less than infinity is real. -/
theorem real_of_finite (x : EReal) (h : Ideal.cmp .olt (max x (-x)) (Ideal.ofBits .f32 0x7F800000#32) = 1#1) : ∃ y : ℝ, x = y := by
  have ht : Ideal.ofBits .f32 0x7F800000#32 = ⊤ := by simp [Ideal.ofBits, Ideal.ieee]
  rw [ht] at h
  induction x with
  | bot => simp [Ideal.cmp] at h
  | top => simp [Ideal.cmp] at h
  | coe y => exact ⟨y, rfl⟩

/-- A host sum over the first two of three axes is a sum over both. -/
theorem sum_two_axes {a b c : ℕ} (h : (⟨3, ![a, b, c]⟩ : Shape).ReducesTo [0, 1] ⟨1, ![c]⟩) (v : (⟨3, ![a, b, c]⟩ : Shape).Idx → EReal)
    (e : EReal) (j : Fin c) : Ideal.hostReduceAdd h v e (ix1 j) = e + ∑ r : Fin a, ∑ k : Fin b, v (ix3 r k j) := by
  unfold Ideal.hostReduceAdd
  rw [← Fintype.sum_prod_type']
  congr 1
  refine Finset.sum_bij' (fun i _ => ((i 0 : Fin a), (i 1 : Fin b))) (fun p _ => ix3 p.1 p.2 j) ?_ ?_ ?_ ?_ ?_
  · intro i _; exact Finset.mem_univ _
  · intro p _
    refine Finset.mem_filter.mpr ⟨Finset.mem_univ _, ?_⟩
    funext q
    match q with
    | 0 => rfl
  · intro i hi
    have hi : h.drop i = ix1 j := (Finset.mem_filter.mp hi).2
    have h2 : (i 2 : Fin c) = j := congrFun hi 0
    funext q
    match q with
    | 0 => rfl
    | 1 => rfl
    | 2 => exact h2.symm
  · intro p _; rfl
  · intro i hi
    have hi : h.drop i = ix1 j := (Finset.mem_filter.mp hi).2
    have h2 : (i 2 : Fin c) = j := congrFun hi 0
    refine congrArg v (funext fun q => ?_)
    match q with
    | 0 => rfl
    | 1 => rfl
    | 2 => exact h2

end Cert.Gate
-- ==== Proof.GateGdnReference.lean ====
module

public import proofs.«01_k».proof.Proof.Gen.Reference7Ideal.Read
public import proofs.«01_k».proof.Proof.Gate
public import Idealize.ShloMosaic.Lib.Pointwise

/-! # The gated norm of the first mixer, backwards: what the reference computes -/

@[expose] public section

set_option maxRecDepth 16384

noncomputable section

namespace Cert.Reference7Ideal.Gated

open Cert.Reference7Ideal Cert.Reference7Ideal.Gen Cert.Reference7Ideal.Read Idealize.ShloMosaic Idealize.ShloMosaic.TcCoe

/-- A head's size, as a number. -/
abbrev D : EReal := Ideal.ofBits .f32 0x43000000#32

/-- The feature `j` of head `a`. -/
def col (a : Fin 8) (j : Fin 128) : Fin 1024 := ⟨128 * a.val + j.val, by omega⟩
/-- The head of a feature, … -/
def head (k : Fin 1024) : Fin 8 := ⟨k.val / 128, by omega⟩
/-- … and its place in the head. -/
def place (k : Fin 1024) : Fin 128 := ⟨k.val % 128, by omega⟩
/-- A feature is the one at its place in its head. -/
theorem col_place (k : Fin 1024) : col (head k) (place k) = k := Fin.ext (Nat.div_add_mod k.val 128)

/-- An array of the tokens' features. -/
abbrev Arr := S2048x1024.Idx → EReal
variable (x0 x1 x2 x3 : Arr) (x4 : S1x128.Idx → EReal)

/-- Row `t` of head `a` of an array. -/
def cut (X : Arr) (t : Fin 2048) (a : Fin 8) : Fin 128 → EReal := fun j => X (ix2 t (col a j))
/-- Row `t` of head `a` of the sum of two. -/
def both (X Y : Arr) (t : Fin 2048) (a : Fin 8) : Fin 128 → EReal := fun j => X (ix2 t (col a j)) + Y (ix2 t (col a j))
/-- The norm's weight. -/
def wt : Fin 128 → EReal := fun j => x4 (ix2 0 j)

/-- The heads split: where an entry of a head lies in the whole array. -/
theorem split (t : Fin 2048) (a : Fin 8) (j : Fin 128) : idx_main_v1 (ix3 t a j) = ix2 t (col a j) := by
  funext q
  match q with
  | 0 => exact Fin.ext (by show ((t.val * 8 + a.val) * 128 + j.val) / 1024 = t.val; omega)
  | 1 => exact Fin.ext (by show ((t.val * 8 + a.val) * 128 + j.val) % 1024 = 128 * a.val + j.val; omega)

/-- The heads joined: where an entry of the whole array lies in its head. -/
theorem join (i : S2048x1024.Idx) : idx_main_v48 i = ix3 (i 0) (head (i 1)) (place (i 1)) := by
  have h : (i 1).val < 1024 := (i 1).isLt
  funext q
  match q with
  | 0 => exact Fin.ext (by show ((i 0).val * 1024 + (i 1).val) / 1024 = (i 0).val; omega)
  | 1 => exact Fin.ext (by show ((i 0).val * 1024 + (i 1).val) / 128 % 8 = (i 1).val / 128; omega)
  | 2 => exact Fin.ext (by show ((i 0).val * 1024 + (i 1).val) % 128 = (i 1).val % 128; omega)

/-- The mixer's output, head by head. -/
theorem v1_at (t : Fin 2048) (a : Fin 8) (j : Fin 128) : (val_main_v1 (F := Ideal) x1 x2 (ix3 t a j) : EReal) = both x1 x2 t a j := by
  rw [val_main_v1_apply, split]
  rfl

/-- A head's mean square. -/
theorem v8_at (t : Fin 2048) (a : Fin 8) : (val_main_v8 (F := Ideal) x1 x2 (ix3 t a 0) : EReal) = Gate.meanSq D (both x1 x2 t a) := by
  show Ideal.div (val_main_v4 (F := Ideal) x1 x2 (ix3 t a 0)) (val_main_v5 (F := Ideal) (ix3 t a 0)) + val_main_v7 (F := Ideal) (ix3 t a 0) = _
  rw [val_main_v4_apply, val_main_v3_apply, val_main_v5_apply, val_main_v7_apply]
  have hz : (val_main_cst (F := Ideal) (Shape.Idx.first h_S_) : EReal) = 0 := Ideal.ofBits_zero .f32
  rw [hz, zero_add]
  have hs : ∀ k : Fin 128, (val_main_v2 (F := Ideal) x1 x2 (idx_main_v3 (idx_main_v4 (ix3 t a 0)) k) : EReal) = both x1 x2 t a k * both x1 x2 t a k := fun k => by
    have hi : idx_main_v3 (idx_main_v4 (ix3 t a 0)) k = ix3 t a k := by
      funext q
      match q with
      | 0 => rfl
      | 1 => rfl
      | 2 => rfl
    rw [hi]
    exact congrArg₂ (· * ·) (v1_at x1 x2 t a k) (v1_at x1 x2 t a k)
  rw [Finset.sum_congr rfl fun k _ => hs k]
  rfl

/-- A head's reciprocal root. -/
theorem v9_at (t : Fin 2048) (a : Fin 8) : (val_main_v9 (F := Ideal) x1 x2 (ix3 t a 0) : EReal) = Gate.inv D (both x1 x2 t a) :=
  congrArg Ideal.rsqrt (v8_at x1 x2 t a)

/-- A normed entry. -/
theorem v14_at (t : Fin 2048) (a : Fin 8) (j : Fin 128) :
    (val_main_v14 (F := Ideal) x1 x2 (ix3 t a j) : EReal) = both x1 x2 t a j * Gate.inv D (both x1 x2 t a) := by
  show (val_main_v1 (F := Ideal) x1 x2 (ix3 t a j) : EReal) * val_main_v13 (F := Ideal) x1 x2 (ix3 t a j) = _
  rw [v1_at, val_main_v13_apply]
  have hi : idx_main_v13 (ix3 t a j) = ix3 t a 0 := by
    funext q
    match q with
    | 0 => rfl
    | 1 => rfl
    | 2 => rfl
  rw [hi, v9_at]

/-- The gate's sigmoid. -/
theorem v18_at (i : S2048x1024.Idx) : (val_main_v18_2 (F := Ideal) x3 i : EReal) = Ideal.logistic (x3 i) := by
  show Ideal.div (val_main_call0_v4 (F := Ideal) i) (val_main_call0_v2 (F := Ideal) i + Ideal.exp (-(x3 i))) = _
  rw [val_main_call0_v4_apply, val_main_call0_v2_apply]
  show Ideal.div (Ideal.ofBits .f32 0x3F800000#32) (Ideal.ofBits .f32 0x3F800000#32 + _) = _
  rw [Ideal.ofBits_one_f32]
  rfl

/-- The gradient of a normed entry times its weight. -/
theorem v24_at (t : Fin 2048) (a : Fin 8) (j : Fin 128) :
    (val_main_v24 (F := Ideal) x0 x3 (ix3 t a j) : EReal) = cut x0 t a j * Gate.silu (cut x3 t a j) := by
  show (val_main_v22 (F := Ideal) x0 (ix3 t a j) : EReal) * val_main_v19 (F := Ideal) x3 (ix3 t a j) = _
  rw [val_main_v22_apply, val_main_v19_apply]
  show x0 (idx_main_v1 (ix3 t a j)) * (x3 (idx_main_v1 (ix3 t a j)) * val_main_v18_2 (F := Ideal) x3 (idx_main_v1 (ix3 t a j))) = _
  rw [split, v18_at]
  rfl

/-- The weight, for every row of every head. -/
theorem v16_at (t : Fin 2048) (a : Fin 8) (j : Fin 128) : (val_main_v16 (F := Ideal) x4 (ix3 t a j) : EReal) = wt x4 j := by
  rw [val_main_v16_apply, val_main_v15_apply]
  refine congrArg x4 (funext fun q => ?_)
  match q with
  | 0 => rfl
  | 1 => rfl

/-- The gradient of a normed entry. -/
theorem v31_at (t : Fin 2048) (a : Fin 8) (j : Fin 128) :
    (val_main_v31 (F := Ideal) x0 x3 x4 (ix3 t a j) : EReal) = Gate.up (cut x3 t a) (cut x0 t a) (wt x4) j :=
  congrArg₂ (· * ·) (v24_at x0 x3 t a j) (v16_at x4 t a j)

/-- The gradient of a head's mean square. -/
theorem v41_at (t : Fin 2048) (a : Fin 8) : (val_main_v41 (F := Ideal) x0 x1 x2 x3 x4 (ix3 t a 0) : EReal)
    = Ideal.div ((∑ k, both x1 x2 t a k * Gate.up (cut x3 t a) (cut x0 t a) (wt x4) k)
      * (Ideal.ofBits .f32 0xBF000000#32 * Ideal.div (Gate.inv D (both x1 x2 t a)) (Gate.meanSq D (both x1 x2 t a)))) D := by
  show Ideal.div ((val_main_v36 (F := Ideal) x0 x1 x2 x3 x4 (ix3 t a 0) : EReal) * (val_main_v11 (F := Ideal) (ix3 t a 0)
    * Ideal.div (val_main_v9 (F := Ideal) x1 x2 (ix3 t a 0)) (val_main_v8 (F := Ideal) x1 x2 (ix3 t a 0)))) (val_main_v40 (F := Ideal) (ix3 t a 0)) = _
  rw [v8_at, v9_at, val_main_v36_apply, val_main_v35_apply, val_main_v11_apply, val_main_v40_apply]
  have hz : (val_main_cst_5 (F := Ideal) (Shape.Idx.first h_S_) : EReal) = 0 := Ideal.ofBits_zero .f32
  have hs : ∀ k : Fin 128, (val_main_v34 (F := Ideal) x0 x1 x2 x3 x4 (idx_main_v35 (idx_main_v36 (ix3 t a 0)) k) : EReal)
      = both x1 x2 t a k * Gate.up (cut x3 t a) (cut x0 t a) (wt x4) k := fun k => by
    have hi : idx_main_v35 (idx_main_v36 (ix3 t a 0)) k = ix3 t a k := by
      funext q
      match q with
      | 0 => exact Fin.ext (by show ((t.val * 8 + a.val) * 1 + 0) / 8 = t.val; omega)
      | 1 => exact Fin.ext (by show ((t.val * 8 + a.val) * 1 + 0) % 8 = a.val; omega)
      | 2 => rfl
    rw [hi]
    exact congrArg₂ (· * ·) (v1_at x1 x2 t a k) (v31_at x0 x3 x4 t a k)
  rw [hz, zero_add, Finset.sum_congr rfl fun k _ => hs k]
  rfl

/-- The gradient of the mixer's output, head by head. -/
theorem v47_at (t : Fin 2048) (a : Fin 8) (j : Fin 128) : (val_main_v47 (F := Ideal) x0 x1 x2 x3 x4 (ix3 t a j) : EReal)
    = Gate.dRow D (both x1 x2 t a) (cut x3 t a) (cut x0 t a) (wt x4) j := by
  show (val_main_v31 (F := Ideal) x0 x3 x4 (ix3 t a j) : EReal) * val_main_v37 (F := Ideal) x1 x2 (ix3 t a j)
    + val_main_v1 (F := Ideal) x1 x2 (ix3 t a j) * val_main_v43 (F := Ideal) x0 x1 x2 x3 x4 (ix3 t a j)
    + val_main_v43 (F := Ideal) x0 x1 x2 x3 x4 (ix3 t a j) * val_main_v1 (F := Ideal) x1 x2 (ix3 t a j) = _
  rw [v31_at, v1_at, val_main_v37_apply, val_main_v43_apply, val_main_v42_apply]
  have hr : idx_main_v37 (ix3 t a j) = ix3 t a 0 := by
    funext q
    match q with
    | 0 => rfl
    | 1 => rfl
    | 2 => rfl
  have hi : ∀ k : Fin 1, idx_main_v42 (idx_main_v43 (ix3 t a j)) k = ix3 t a 0 := fun k => by
    funext q
    match q with
    | 0 => rfl
    | 1 => rfl
    | 2 => exact Subsingleton.elim (α := Fin 1) _ _
  have hz : (val_main_cst_7 (F := Ideal) (Shape.Idx.first h_S_) : EReal) = 0 := Ideal.ofBits_zero .f32
  rw [hr, v9_at, hz, zero_add, Fin.sum_univ_one, hi, v41_at]
  have hD : D = ((128 : ℝ) : EReal) := Gate.ofBits_128
  rw [hD]
  exact Gate.dRow_eq (by norm_num) _ _ _ _ j _ rfl

/-- The gradient of the mixer's output. -/
theorem v48_at (i : S2048x1024.Idx) : (val_main_v48 (F := Ideal) x0 x1 x2 x3 x4 i : EReal)
    = Gate.dRow D (both x1 x2 (i 0) (head (i 1))) (cut x3 (i 0) (head (i 1))) (cut x0 (i 0) (head (i 1))) (wt x4) (place (i 1)) := by
  rw [val_main_v48_apply, join]
  exact v47_at x0 x1 x2 x3 x4 _ _ _

/-- The gradient of the gate, where the gradient of the output and the weight are finite. -/
theorem v26_at (h0 : ∀ i, ∃ y : ℝ, x0 i = y) (h4 : ∀ i, ∃ y : ℝ, x4 i = y) (i : S2048x1024.Idx) :
    (val_main_v26 (F := Ideal) x0 x1 x2 x3 x4 i : EReal)
      = Gate.dGate D (both x1 x2 (i 0) (head (i 1))) (cut x3 (i 0) (head (i 1))) (cut x0 (i 0) (head (i 1))) (wt x4) (place (i 1)) := by
  have hx : ∀ X : Arr, X i = cut X (i 0) (head (i 1)) (place (i 1)) := fun X => by
    refine congrArg X (funext fun q => ?_)
    match q with
    | 0 => rfl
    | 1 => exact (col_place _).symm
  have h25 : (val_main_v25 (F := Ideal) x0 x1 x2 x4 i : EReal) = both x1 x2 (i 0) (head (i 1)) (place (i 1))
      * Gate.inv D (both x1 x2 (i 0) (head (i 1))) * wt x4 (place (i 1)) * cut x0 (i 0) (head (i 1)) (place (i 1)) := by
    rw [val_main_v25_apply]
    show (val_main_v23 (F := Ideal) x0 x1 x2 x4 (idx_main_v48 i) : EReal) = _
    rw [join]
    refine congrArg₂ (· * ·) (congrArg₂ (· * ·) (v14_at x1 x2 _ _ _) (v16_at x4 _ _ _)) ?_
    exact (val_main_v22_apply (F := Ideal) x0 _).trans (congrArg x0 (split _ _ _))
  show (val_main_v25 (F := Ideal) x0 x1 x2 x4 i : EReal) * val_main_v18_2 (F := Ideal) x3 i
    + x3 i * val_main_v25 (F := Ideal) x0 x1 x2 x4 i * (val_main_v18_2 (F := Ideal) x3 i
      * (val_main_call0_v6 (F := Ideal) i - val_main_v18_2 (F := Ideal) x3 i)) = _
  rw [h25, v18_at, val_main_call0_v6_apply, hx x3]
  have h1 : (val_main_call0_cst_1 (F := Ideal) (idx_main_call0_v6 i) : EReal) = 1 := Ideal.ofBits_one_f32
  have hD : D = ((128 : ℝ) : EReal) := Gate.ofBits_128
  rw [h1, hD]
  exact Gate.dGate_eq (by norm_num) _ _ _ _ _ (h0 _) (h4 _)

/-- The gradient of the norm's weight. -/
theorem v33_at (j : S1x128.Idx) : (val_main_v33 (F := Ideal) x0 x1 x2 x3 j : EReal)
    = ∑ t : Fin 2048, ∑ a : Fin 8, Gate.dWeight D (both x1 x2 t a) (cut x3 t a) (cut x0 t a) (j 1) := by
  have h33 : idx_main_v33 j = ix1 (j 1) := by
    funext q
    match q with
    | 0 => rfl
  have h29 : idx_main_v29 (ix3 0 0 (j 1)) = ix1 (j 1) := by
    funext q
    match q with
    | 0 => exact Fin.ext (by show ((0 * 1 + 0) * 128 + (j 1).val) = (j 1).val; omega)
  rw [val_main_v33_apply, h33]
  refine (Gate.sum_two_axes reducesTo_S1x1x128_S128_d0_1 (val_main_v29 (F := Ideal) x0 x1 x2 x3) _ (j 1)).trans ?_
  rw [Fin.sum_univ_one, Fin.sum_univ_one, val_main_v29_apply, h29]
  have hz : (val_main_cst_4 (F := Ideal) (Shape.Idx.first h_S_) : EReal) = 0 := Ideal.ofBits_zero .f32
  have hz' : (val_main_cst_3 (F := Ideal) (Shape.Idx.first h_S_) : EReal) = 0 := Ideal.ofBits_zero .f32
  rw [hz, zero_add]
  refine (Gate.sum_two_axes reducesTo_S2048x8x128_S128_d0_1 (val_main_v27 (F := Ideal) x0 x1 x2 x3) _ (j 1)).trans ?_
  rw [hz', zero_add]
  refine Finset.sum_congr rfl fun t _ => Finset.sum_congr rfl fun a _ => ?_
  exact (congrArg₂ (· * ·) (v14_at x1 x2 t a _) (v24_at x0 x3 t a _)).trans (mul_comm _ _)

end Cert.Reference7Ideal.Gated
-- ==== Proof.GateGdn.lean ====
module

public import proofs.«01_k».proof.Defs
public import proofs.«01_k».proof.Proof.Gen.Kernel7Ideal.Frame
public import proofs.«01_k».proof.Proof.Gen.Pre_finite7
public import proofs.«01_k».proof.Proof.GateGdnReference
public import Idealize.ShloMosaic.Lib.Pointwise
public import Idealize.ShloMosaic.Lib.Pipeline.ValueKit

/-! # The gated norm of the first mixer, backwards: what the kernel computes -/

@[expose] public section

set_option maxRecDepth 16384

noncomputable section

namespace Cert.Kernel7Ideal.Gated

open Cert.Reference7Ideal.Gated (D col head place cut both wt)
open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gradient of the gated norm's output. -/
abbrev DY (c : Dev nD) : S2048x1024.Idx → EReal := m ((c : Thread nD τ).loc main_arg0)
/-- The forward mixer's output, … -/
abbrev OF (c : Dev nD) : S2048x1024.Idx → EReal := m ((c : Thread nD τ).loc main_arg1)
/-- … the backward mixer's, … -/
abbrev OB (c : Dev nD) : S2048x1024.Idx → EReal := m ((c : Thread nD τ).loc main_arg2)
/-- … the gate before its SiLU, … -/
abbrev Z (c : Dev nD) : S2048x1024.Idx → EReal := m ((c : Thread nD τ).loc main_arg3)
/-- … and the norm's weight. -/
abbrev W (c : Dev nD) : S1x128.Idx → EReal := m ((c : Thread nD τ).loc main_arg4)

/-- The gradient of the mixer's output. -/
def G5 (c : Dev nD) : S2048x1024.Idx → EReal := fun i =>
  Gate.dRow D (both (OF m c) (OB m c) (i 0) (head (i 1))) (cut (Z m c) (i 0) (head (i 1))) (cut (DY m c) (i 0) (head (i 1))) (wt (W m c)) (place (i 1))
/-- The gradient of the gate. -/
def G6 (c : Dev nD) : S2048x1024.Idx → EReal := fun i =>
  Gate.dGate D (both (OF m c) (OB m c) (i 0) (head (i 1))) (cut (Z m c) (i 0) (head (i 1))) (cut (DY m c) (i 0) (head (i 1))) (wt (W m c)) (place (i 1))
/-- The gradient of the norm's weight. -/
def G7 (c : Dev nD) : S1x128.Idx → EReal := fun j =>
  ∑ t : Fin 2048, ∑ a : Fin 8, Gate.dWeight D (both (OF m c) (OB m c) t a) (cut (Z m c) t a) (cut (DY m c) t a) (j 1)

/-! ## The blocks read -/

/-- The blocks that each point works on. -/
theorem idx (t : Fin cfg0.N) : win0_0.index t = ![t.val, 0] ∧ win0_1.index t = ![t.val, 0] ∧ win0_2.index t = ![t.val, 0]
    ∧ win0_3.index t = ![t.val, 3] ∧ win0_4.index t = ![0, 0] ∧ win0_5.index t = ![t.val, 0] ∧ win0_6.index t = ![t.val, 3]
    ∧ win0_7.index t = ![0, 0] := by
  revert t; decide +kernel

/-- Row `r` of the block of point `t`. -/
def row (t : Fin cfg0.N) (r : Fin 512) : Fin 2048 := ⟨t.val * 512 + r.val, by have : t.val < 4 := t.isLt; omega⟩

/-- A point's rows of the gradient of the output. -/
theorem b0 (c : Dev nD) (t : Fin cfg0.N) (r : Fin 512) (k : Fin 1024) : (iblk m c 0 t (ix2 r k) : EReal) = DY m c (ix2 (row t r) k) := by
  blk_ext [iblk, idx t, row]
/-- A point's rows of the forward mixer's output. -/
theorem b1 (c : Dev nD) (t : Fin cfg0.N) (r : Fin 512) (k : Fin 1024) : (iblk m c 1 t (ix2 r k) : EReal) = OF m c (ix2 (row t r) k) := by
  blk_ext [iblk, idx t, row]
/-- A point's rows of the backward mixer's output. -/
theorem b2 (c : Dev nD) (t : Fin cfg0.N) (r : Fin 512) (k : Fin 1024) : (iblk m c 2 t (ix2 r k) : EReal) = OB m c (ix2 (row t r) k) := by
  blk_ext [iblk, idx t, row]
/-- The norm's weight, whole at every point. -/
theorem b4 (c : Dev nD) (t : Fin cfg0.N) (j : Fin 128) : (iblk m c 4 t (ix2 0 j) : EReal) = W m c (ix2 0 j) := by
  blk_ext [iblk, idx t]

/-- Columns 3072 … 4095 of the projections are the gate. -/
theorem V_z (c : Dev nD) (i : S2048x9728.Idx) (k : Fin 1024) (h : (i 1).val = 3072 + k.val) : (V m c main_v3 i : EReal) = Z m c (ix2 (i 0) k) := by
  show (StableHlo.after hostOps0 (fun b => m (c, b)) (Proc.devRef .tc main_v3) i : EReal) = _
  after_results
  pointwise
  refine (dif_neg (by omega)).trans ((dif_pos (by omega)).trans ?_)
  show Z m c _ = _
  exact congrArg (fun q => Z m c (ix2 (i 0) q)) (Fin.ext (by show (i 1).val - 3072 = k.val; omega))

/-- A point's rows of the gate, read out of the projections' array. -/
theorem b3 (c : Dev nD) (t : Fin cfg0.N) (r : Fin 512) (k : Fin 1024) : (X0_3 m c t (ix2 r k) : EReal) = Z m c (ix2 (row t r) k) := by
  refine (dif_pos (moved0_3 t _)).trans ?_
  refine (V_z m c _ k (by blk_simp [idx t])).trans ?_
  blk_ext [idx t, row]

/-! ## One head of a point -/

/-- The columns of a head lie in the block. -/
theorem inb (a : Fin 8) : ∀ q : Fin S512x1024.rank, (![0, 128 * a.val] : Fin 2 → ℕ) q + (![512, 128] : Fin 2 → ℕ) q ≤ S512x1024.size q := by
  revert a; decide

/-- A head's columns of a block. -/
abbrev slab (X : S512x1024.Idx → Elt Ideal .f32) (a : Fin 8) : S512x128.Idx → Elt Ideal .f32 :=
  View.ld X (Rect.unit (s := S512x1024) ![0, 128 * a.val] ![512, 128] (inb a))

/-- A head's columns, at an index. -/
theorem slab_apply (X : S512x1024.Idx → Elt Ideal .f32) (a : Fin 8) (r : Fin 512) (j : Fin 128) : (slab X a (ix2 r j) : EReal) = X (ix2 r (col a j)) := by
  refine View.ld_unit_apply_of (Val := Elt Ideal) X _ _ _ (ix2 r j) (ix2 r (col a j)) fun q => ?_
  match q with
  | 0 => exact (zero_add _).symm
  | 1 => rfl

/-- What the body stores of a head's gradient. -/
def headO (of ob z dy : FVec Ideal S512x128 .f32) (w : FVec Ideal S1x128 .f32) : FVec Ideal S512x128 .f32 :=
  k0_pay11 (k0_pay3 of ob) (k0_pay5 of ob) (k0_pay7 z dy) (k0_pay10 w)
/-- What the body stores of a head's gate. -/
def headZ (of ob z dy : FVec Ideal S512x128 .f32) (w : FVec Ideal S1x128 .f32) : FVec Ideal S512x128 .bf16 := k0_pay8 w of ob z dy

/-- A head's gradient, row by row. -/
theorem headO_apply (of ob z dy : FVec Ideal S512x128 .f32) (w : FVec Ideal S1x128 .f32) (r : Fin 512) (j : Fin 128) :
    (headO of ob z dy w (ix2 r j) : EReal)
      = Gate.dRow D (fun k => of (ix2 r k) + ob (ix2 r k)) (fun k => z (ix2 r k)) (fun k => dy (ix2 r k)) (fun k => w (ix2 0 k)) j := by
  unfold headO k0_pay11 k0_pay3 k0_pay5 k0_pay7 k0_pay10 k0_pay3 k0_pay4 Gate.dRow Gate.up Gate.inv Gate.meanSq Gate.silu
  pointwise

/-- A head's gate, row by row. -/
theorem headZ_apply (of ob z dy : FVec Ideal S512x128 .f32) (w : FVec Ideal S1x128 .f32) (r : Fin 512) (j : Fin 128) :
    (headZ of ob z dy w (ix2 r j) : EReal)
      = Gate.dGate D (fun k => of (ix2 r k) + ob (ix2 r k)) (fun k => z (ix2 r k)) (fun k => dy (ix2 r k)) (fun k => w (ix2 0 k)) j := by
  unfold headZ k0_pay8 k0_pay6 k0_pay5 k0_pay4 k0_pay3 Gate.dGate Gate.inv Gate.meanSq
  rw [← Ideal.ofBits_one_f32]
  pointwise

/-- Eight heads side by side, read at an index. -/
theorem heads {e : EltTy} (P : Fin 8 → S512x128.Idx → Elt Ideal e) (y : S512x1024.Idx) (v : Elt Ideal e)
    (h : ∀ a (r : Fin 512) (j : Fin 128), (y 0).val = r.val → (y 1).val = 128 * a.val + j.val → P a (ix2 r j) = v) :
    View.canon (Val := Elt Ideal) (List.ofFn fun a : Fin 8 => (⟨Rect.unit (s := S512x1024) ![0, 128 * a.rev.val] ![512, 128] (inb a.rev), P a.rev⟩ : View.Piece (Elt Ideal) S512x1024 e)) y = v := by
  have hy : (y 1).val < 1024 := (y 1).isLt
  refine View.canon_ofFn_unit_eq_of_forall (fun a : Fin 8 => ![0, 128 * a.rev.val]) ![512, 128] (fun a => inb a.rev) (fun a => P a.rev) y v
    ⟨(⟨(y 1).val / 128, by omega⟩ : Fin 8).rev, fun q => ?_⟩ fun a x hx => ?_
  · rw [Fin.rev_rev]
    match q with
    | 0 => exact ⟨Nat.zero_le _, (zero_add 512).symm ▸ (y 0).isLt⟩
    | 1 => exact ⟨by show 128 * ((y 1).val / 128) ≤ _; omega, by show _ < 128 * ((y 1).val / 128) + 128; omega⟩
  · have hx' : x = ix2 (x 0) (x 1) := by blk_ext
    rw [hx']
    exact h a.rev (x 0) (x 1) ((hx 0).trans (zero_add _)) (hx 1)

/-- The point is the first or not. -/
theorem cases_t (t : Fin cfg0.N) : (t.val % 4 = 0 ∧ ¬1 ≤ t.val) ∨ (¬t.val % 4 = 0 ∧ 1 ≤ t.val) := by
  have : t.val < 4 := t.isLt
  omega

/-- A point's row of a head: what is read is the arrays' row. -/
theorem rows (c : Dev nD) (t : Fin cfg0.N) (r : Fin 512) (a : Fin 8) :
    ((fun k => (slab (iblk m c 1 t) a (ix2 r k) : EReal) + slab (iblk m c 2 t) a (ix2 r k)) = both (OF m c) (OB m c) (row t r) a)
    ∧ ((fun k => (slab (X0_3 m c t) a (ix2 r k) : EReal)) = cut (Z m c) (row t r) a)
    ∧ ((fun k => (slab (iblk m c 0 t) a (ix2 r k) : EReal)) = cut (DY m c) (row t r) a)
    ∧ (fun k => (iblk m c 4 t (ix2 0 k) : EReal)) = wt (W m c) := by
  refine ⟨funext fun k => ?_, funext fun k => ?_, funext fun k => ?_, funext fun k => b4 m c t k⟩
  · exact congrArg₂ (· + ·) ((slab_apply _ a r k).trans (b1 m c t r _)) ((slab_apply _ a r k).trans (b2 m c t r _))
  · exact (slab_apply _ a r k).trans (b3 m c t r _)
  · exact (slab_apply _ a r k).trans (b0 m c t r _)

/-- A point leaves its rows of the mixer's gradient. -/
theorem block5 (c : Dev nD) (t : Fin cfg0.N) (y : S512x1024.Idx) (i : S2048x1024.Idx) (h0 : (i 0).val = t.val * 512 + (y 0).val) (h1 : (i 1).val = (y 1).val) :
    ((dats m 0 c).after 5 t y : EReal) = G5 m c i := by
  have key : View.canon (Val := Elt Ideal) (List.ofFn fun a : Fin 8 => (⟨Rect.unit (s := S512x1024) ![0, 128 * a.rev.val] ![512, 128] (inb a.rev),
      headO (slab (iblk m c 1 t) a.rev) (slab (iblk m c 2 t) a.rev) (slab (X0_3 m c t) a.rev) (slab (iblk m c 0 t) a.rev) (iblk m c 4 t)⟩
        : View.Piece (Elt Ideal) S512x1024 .f32)) y = G5 m c i := by
    refine heads (e := .f32) (fun a => headO (slab (iblk m c 1 t) a) (slab (iblk m c 2 t) a) (slab (X0_3 m c t) a) (slab (iblk m c 0 t) a) (iblk m c 4 t)) y (G5 m c i)
      fun a r j hr hj => Eq.trans (α := EReal) (headO_apply _ _ _ _ _ r j) ?_
    have hi0 : i 0 = row t r := Fin.ext (by rw [h0, hr]; rfl)
    have hi1 : head (i 1) = a := Fin.ext (by show (i 1).val / 128 = _; rw [h1, hj]; omega)
    have hi2 : place (i 1) = j := Fin.ext (by show (i 1).val % 128 = _; rw [h1, hj]; omega)
    obtain ⟨e1, e2, e3, e4⟩ := rows m c t r a
    unfold G5
    rw [hi0, hi1, hi2, e1, e2, e3, e4]
  rw [after0_5]
  rcases cases_t t with ⟨h, h1⟩ | ⟨h, h1⟩
  · rw [outsAt0_A m c t h h1]
    frame_out
    exact key
  · rw [outsAt0_B m c t h h1]
    frame_out
    exact key

/-- A point leaves its rows of the gate's gradient. -/
theorem block6 (c : Dev nD) (t : Fin cfg0.N) (y : S512x1024.Idx) (i : S2048x1024.Idx) (h0 : (i 0).val = t.val * 512 + (y 0).val) (h1 : (i 1).val = (y 1).val) :
    ((dats m 0 c).after 6 t y : EReal) = G6 m c i := by
  have key : View.canon (Val := Elt Ideal) (List.ofFn fun a : Fin 8 => (⟨Rect.unit (s := S512x1024) ![0, 128 * a.rev.val] ![512, 128] (inb a.rev),
      headZ (slab (iblk m c 1 t) a.rev) (slab (iblk m c 2 t) a.rev) (slab (X0_3 m c t) a.rev) (slab (iblk m c 0 t) a.rev) (iblk m c 4 t)⟩
        : View.Piece (Elt Ideal) S512x1024 .bf16)) y = G6 m c i := by
    refine heads (e := .bf16) (fun a => headZ (slab (iblk m c 1 t) a) (slab (iblk m c 2 t) a) (slab (X0_3 m c t) a) (slab (iblk m c 0 t) a) (iblk m c 4 t)) y (G6 m c i)
      fun a r j hr hj => Eq.trans (α := EReal) (headZ_apply _ _ _ _ _ r j) ?_
    have hi0 : i 0 = row t r := Fin.ext (by rw [h0, hr]; rfl)
    have hi1 : head (i 1) = a := Fin.ext (by show (i 1).val / 128 = _; rw [h1, hj]; omega)
    have hi2 : place (i 1) = j := Fin.ext (by show (i 1).val % 128 = _; rw [h1, hj]; omega)
    obtain ⟨e1, e2, e3, e4⟩ := rows m c t r a
    unfold G6
    rw [hi0, hi1, hi2, e1, e2, e3, e4]
  rw [after0_6]
  rcases cases_t t with ⟨h, h1⟩ | ⟨h, h1⟩
  · rw [outsAt0_A m c t h h1]
    frame_out
    exact key
  · rw [outsAt0_B m c t h h1]
    frame_out
    exact key

/-- What a head of a point adds to the weight's gradient. -/
def headW (of ob z dy : FVec Ideal S512x128 .f32) : Fin 128 → EReal := fun j =>
  ∑ r : Fin 512, Gate.dWeight D (fun k => of (ix2 r k) + ob (ix2 r k)) (fun k => z (ix2 r k)) (fun k => dy (ix2 r k)) j

/-- What a point adds to the weight's gradient. -/
def part (c : Dev nD) (t : Fin cfg0.N) : Fin 128 → EReal := fun j => ∑ a : Fin 8,
  headW (slab (iblk m c 1 t) a) (slab (iblk m c 2 t) a) (slab (X0_3 m c t) a) (slab (iblk m c 0 t) a) j

/-- A head's rows added to what the heads before it gave. -/
def addW (s : FVec Ideal S1x128 .f32) (of ob z dy : FVec Ideal S512x128 .f32) : FVec Ideal S1x128 .f32 := k0_pay21 s (k0_pay6 of ob) (k0_pay7 z dy)

/-- The sum with a head added, feature by feature. -/
theorem addW_apply (s : FVec Ideal S1x128 .f32) (of ob z dy : FVec Ideal S512x128 .f32) (j : Fin 128) :
    (addW s of ob z dy (ix2 0 j) : EReal) = s (ix2 0 j) + headW of ob z dy j := by
  unfold addW k0_pay21 k0_pay6 k0_pay7 k0_pay5 k0_pay4 k0_pay3 headW Gate.dWeight Gate.inv Gate.meanSq Gate.silu
  pointwise

/-- A point's eight heads, added one after the other. -/
def sumW (of ob z dy : S512x1024.Idx → Elt Ideal .f32) : FVec Ideal S1x128 .f32 :=
  let h (s : FVec Ideal S1x128 .f32) (a : Fin 8) : FVec Ideal S1x128 .f32 := addW s (slab of a) (slab ob a) (slab z a) (slab dy a)
  h (h (h (h (h (h (h (h (broadcast S1x128 (Scalar.ofBits .f32 0x00000000#32)) 0) 1) 2) 3) 4) 5) 6) 7

/-- What a point's heads give together. -/
theorem sumW_apply (c : Dev nD) (t : Fin cfg0.N) (j : Fin 128) :
    (sumW (iblk m c 1 t) (iblk m c 2 t) (X0_3 m c t) (iblk m c 0 t) (ix2 0 j) : EReal) = part m c t j := by
  unfold sumW part
  simp only [addW_apply, Fin.sum_univ_eight]
  show Ideal.ofBits .f32 0x00000000#32 + _ + _ + _ + _ + _ + _ + _ + _ = _
  rw [Ideal.ofBits_zero, zero_add]

/-- The first point starts the weight's gradient. -/
theorem start7 (c : Dev nD) (t : Fin cfg0.N) (h : t.val % 4 = 0) (j : Fin 128) :
    ((outsAt0 m c t.val t.isLt).2.2 (ix2 0 j) : EReal) = 0 + part m c t j := by
  rw [outsAt0_A m c t h (by have : t.val < 4 := t.isLt; omega)]
  frame_out
  exact (sumW_apply m c t j).trans (zero_add _).symm

/-- A point's sum added to the points' before it. -/
theorem more (s v : FVec Ideal S1x128 .f32) (i : S1x128.Idx) : (k0_pay2 v s i : EReal) = s i + v i := by
  unfold k0_pay2
  pointwise

/-- Every other point adds its heads' sums. -/
theorem step7 (c : Dev nD) (t : Fin cfg0.N) (h : ¬t.val % 4 = 0) (j : Fin 128) :
    ((outsAt0 m c t.val t.isLt).2.2 (ix2 0 j) : EReal)
      = (outsAt0 m c (t.val - 1) (Nat.lt_of_le_of_lt (Nat.sub_le _ _) t.isLt)).2.2 (ix2 0 j) + part m c t j := by
  rw [outsAt0_B m c t h (by omega)]
  frame_out
  refine (more _ _ _).trans (congrArg (_ + ·) ?_)
  exact sumW_apply m c t j

/-! ## The arrays the kernel leaves -/

/-- The kernel leaves the mixer's gradient. -/
theorem arr5 (c : Dev nD) : (dats m 0 c).arrAt 5 (cfgs 0).N = G5 m c := by
  refine (dats m 0 c).arrAt_eq_of_covers 5 _ (by decide +kernel) fun t hf y => ?_
  have hi : win0_5.index t = ![t.val, 0] := (idx t).2.2.2.2.2.1
  refine block5 m c t y ((win0_5.blk t).view.emb y) ?_ ?_
  · show win0_5.index t 0 * 512 + 1 * (y 0).val = _
    rw [hi, one_mul]
    rfl
  · show win0_5.index t 1 * 1024 + 1 * (y 1).val = _
    rw [hi, one_mul]
    exact zero_add _

/-- The gate's gradient where it lies among the projections'. -/
def D6 (c : Dev nD) : S2048x9728.Idx → EReal := fun i =>
  if h : 3072 ≤ (i 1).val ∧ (i 1).val < 4096 then G6 m c (ix2 (i 0) ⟨(i 1).val - 3072, by omega⟩) else 0

/-- A point's block of it is the point's rows of the gate's gradient. -/
theorem d6_of (c : Dev nD) (t : Fin cfg0.N) (y : S512x1024.Idx) (i : S2048x9728.Idx) (h0 : (i 0).val = t.val * 512 + (y 0).val)
    (h1 : (i 1).val = 3072 + (y 1).val) : ((dats m 0 c).after 6 t y : EReal) = D6 m c i := by
  have hy : (y 1).val < 1024 := (y 1).isLt
  have h2 : 3072 ≤ (i 1).val ∧ (i 1).val < 4096 := by omega
  unfold D6
  rw [dif_pos h2]
  refine block6 m c t y (ix2 (i 0) ⟨(i 1).val - 3072, by omega⟩) h0 ?_
  show (i 1).val - 3072 = _
  omega

/-- The kernel leaves the gate's gradient in the columns that it writes. -/
theorem arr6 (c : Dev nD) (i : S2048x9728.Idx) (hi : 3072 ≤ (i 1).val ∧ (i 1).val < 4096) : ((dats m 0 c).arrAt 6 (cfgs 0).N i : EReal) = D6 m c i := by
  refine ((dats m 0 c).arrAt_apply_of_coversWhere 6 (D6 m c) (P := fun i => (i 1).val / 1024 = 3) (fun β => β (1 : Fin _) = 3) (by decide +kernel)
    (fun t hf y => ?_) (fun j => by blk_simp [Pipeline.Window.cell_apply]) i).trans (if_pos (by omega))
  have hx : win0_6.index t = ![t.val, 3] := (idx t).2.2.2.2.2.2.1
  refine d6_of m c t _ _ ?_ ?_
  · show win0_6.index t 0 * 512 + 1 * (y 0).val = _
    rw [hx, one_mul]
    rfl
  · show win0_6.index t 1 * 1024 + 1 * (y 1).val = _
    rw [hx, one_mul]
    rfl

/-- The kernel leaves the gradient of the norm's weight. -/
theorem arr7 (c : Dev nD) : (dats m 0 c).arrAt 7 (cfgs 0).N = G7 m c := by
  refine (dats m 0 c).arrAt_eq_of_after_last 7 t0_3 (by decide +kernel) _ fun j => ?_
  blk_simp
  rw [after0_7]
  have hj : j = ix2 0 (j 1) := by blk_ext
  rw [hj]
  refine (Pipeline.eq_sum_fin_of_reset_step_apply_last (fun n h (i : Fin 128) => (outsAt0 m c n h).2.2 (ix2 0 i)) 4 (fun _ => (0 : EReal)) (part m c)
    (start7 m c) (step7 m c) (by decide) t0_3 rfl (j 1)).trans ?_
  unfold part headW G7
  refine Eq.trans (congrArg (0 + ·) (Finset.sum_congr rfl fun t _ => Finset.sum_comm)) ?_
  rw [zero_add]
  refine Fin.sum_mul_add_congr fun t r hl => Finset.sum_congr rfl fun a _ => ?_
  obtain ⟨e1, e2, e3, -⟩ := rows m c t r a
  rw [e1, e2, e3]
  rfl

/-- The lines after the kernel find each of its arrays as the kernel leaves it. -/
theorem left (c : Dev nD) (w : Fin (cfgs 0).W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr (cfgs 0).spec (by decide) c (V0 m c) _ w

/-- The gate's gradient, cut out of the projections' and widened by the lines after the kernel. -/
theorem tail6 (c : Dev nD) : Pipeline.afterTail₀ cfgs (dats m) 0 (V0 m) [hostOps1] c main_v6 = G6 m c := by
  have hw := left m c 6
  show StableHlo.after hostOps1 (Pipeline.withArrays (cfgs 0).spec c (V0 m c) fun w => (dats m 0 c).arrAt w (cfgs 0).N) (Proc.devRef .tc main_v6) = _
  generalize Pipeline.withArrays (cfgs 0).spec c (V0 m c) (fun w => (dats m 0 c).arrAt w (cfgs 0).N) = B at hw ⊢
  after_results
  funext i
  pointwise
  have h1 : (i 1).val < 1024 := (i 1).isLt
  have h2 : 3072 ≤ 3072 + (i 1).val ∧ 3072 + (i 1).val < 4096 := by omega
  refine (congrFun hw _).trans ((arr6 m c _ h2).trans ((dif_pos h2).trans (congrArg (G6 m c) (funext fun q => ?_))))
  match q with
  | 0 => rfl
  | 1 => exact Fin.ext (Nat.add_sub_cancel_left 3072 _)

/-- The run of the program. -/
theorem run : θ_run defs (onTc (τ := τ) (main (F := Ideal))) ⟨m, fun _ => 0, ρ⟩ fun r => ∀ c : Dev nD,
    r.2.mem ((c : Thread nD τ).loc main_v4_0) = G5 m c ∧ r.2.mem ((c : Thread nD τ).loc main_v6) = G6 m c
      ∧ r.2.mem ((c : Thread nD τ).loc main_v4_2) = G7 m c :=
  (θ_run defs _ _).mono (fun r h c => ⟨((h c).1 5).trans (arr5 m c), ((h c).2 main_v6 (Pipeline.mem_restRefs_of main_v6 (by decide) (by decide))).trans (tail6 m c),
    ((h c).1 7).trans (arr7 m c)⟩) (run_main m ρ)

/-- The precondition: the gradient of the output and the weight are real numbers. -/
theorem finite (hp : Pre_Kernel7Ideal_finite7 (hPre_finite7 := Pre_finite7.Gen.facts) m) (c : Dev nD) :
    (∀ i, ∃ y : ℝ, DY m c i = y) ∧ ∀ i, ∃ y : ℝ, W m c i = y :=
  ⟨fun i => Gate.real_of_finite _ (congrFun (hp c).1 i), fun i => Gate.real_of_finite _ (congrFun (hp c).2 i)⟩

/-- The gated norm of the first mixer, backwards: kernel and reference end with the same three gradients. -/
theorem algebraic : algebraic_Kernel7Ideal_Reference7Ideal_pre_finite7 (hKernel7Ideal := Kernel7Ideal.Gen.facts)
    (hReference7Ideal := Reference7Ideal.Gen.facts) (hPre_finite7 := Pre_finite7.Gen.facts) := by
  intro m g m' g' hp hagree
  refine ⟨_, _, _, (θ_run _ _ _).mono (fun r h c => ⟨(h.1 c).1, (h.1 c).2.1, (h.1 c).2.2, h.2 c⟩) (θ_run_and (run m g) (Kernel7Ideal.Gen.unchanged m g)),
    (θ_run _ _ _).mono (fun r h c => ⟨(h c).1.trans ?_, (h c).2.1.trans ?_, (h c).2.2.1.trans ?_, (h c).2.2.2⟩) (Reference7Ideal.Value.run m' g')⟩
  · rw [Reference7Ideal.Read.val_main_v48_eq, (hagree c).1, (hagree c).2.1, (hagree c).2.2.1, (hagree c).2.2.2.1, (hagree c).2.2.2.2]
    exact funext fun i => Reference7Ideal.Gated.v48_at (DY m c) (OF m c) (OB m c) (Z m c) (W m c) i
  · rw [Reference7Ideal.Read.val_main_v26_eq, (hagree c).1, (hagree c).2.1, (hagree c).2.2.1, (hagree c).2.2.2.1, (hagree c).2.2.2.2]
    exact funext fun i => Reference7Ideal.Gated.v26_at (DY m c) (OF m c) (OB m c) (Z m c) (W m c) (finite m hp c).1 (finite m hp c).2 i
  · rw [Reference7Ideal.Read.val_main_v33_eq, (hagree c).1, (hagree c).2.1, (hagree c).2.2.1, (hagree c).2.2.2.1]
    exact funext fun j => Reference7Ideal.Gated.v33_at (DY m c) (OF m c) (OB m c) (Z m c) j

end Cert.Kernel7Ideal.Gated
-- ==== Proof.GateGlaReference.lean ====
module

public import proofs.«01_k».proof.Proof.Gen.Reference8Ideal.Read
public import proofs.«01_k».proof.Proof.Gate
public import Idealize.ShloMosaic.Lib.Pointwise

/-! # The gated norm of the second mixer, backwards: what the reference computes -/

@[expose] public section

set_option maxRecDepth 16384

noncomputable section

namespace Cert.Reference8Ideal.Gated

open Cert.Reference8Ideal Cert.Reference8Ideal.Gen Cert.Reference8Ideal.Read Idealize.ShloMosaic Idealize.ShloMosaic.TcCoe

/-- A head's size, as a number. -/
abbrev D : EReal := Ideal.ofBits .f32 0x43800000#32

/-- The feature `j` of head `a`. -/
def col (a : Fin 4) (j : Fin 256) : Fin 1024 := ⟨256 * a.val + j.val, by omega⟩
/-- The head of a feature, … -/
def head (k : Fin 1024) : Fin 4 := ⟨k.val / 256, by omega⟩
/-- … and its place in the head. -/
def place (k : Fin 1024) : Fin 256 := ⟨k.val % 256, by omega⟩
/-- A feature is the one at its place in its head. -/
theorem col_place (k : Fin 1024) : col (head k) (place k) = k := Fin.ext (Nat.div_add_mod k.val 256)

/-- An array of the tokens' features. -/
abbrev Arr := S2048x1024.Idx → EReal
variable (x0 x1 x2 x3 : Arr) (x4 : S1x256.Idx → EReal)

/-- Row `t` of head `a` of an array. -/
def cut (X : Arr) (t : Fin 2048) (a : Fin 4) : Fin 256 → EReal := fun j => X (ix2 t (col a j))
/-- Row `t` of head `a` of the sum of two. -/
def both (X Y : Arr) (t : Fin 2048) (a : Fin 4) : Fin 256 → EReal := fun j => X (ix2 t (col a j)) + Y (ix2 t (col a j))
/-- The norm's weight. -/
def wt : Fin 256 → EReal := fun j => x4 (ix2 0 j)

/-- The heads split: where an entry of a head lies in the whole array. -/
theorem split (t : Fin 2048) (a : Fin 4) (j : Fin 256) : idx_main_v1 (ix3 t a j) = ix2 t (col a j) := by
  funext q
  match q with
  | 0 => exact Fin.ext (by show ((t.val * 4 + a.val) * 256 + j.val) / 1024 = t.val; omega)
  | 1 => exact Fin.ext (by show ((t.val * 4 + a.val) * 256 + j.val) % 1024 = 256 * a.val + j.val; omega)

/-- The heads joined: where an entry of the whole array lies in its head. -/
theorem join (i : S2048x1024.Idx) : idx_main_v48 i = ix3 (i 0) (head (i 1)) (place (i 1)) := by
  have h : (i 1).val < 1024 := (i 1).isLt
  funext q
  match q with
  | 0 => exact Fin.ext (by show ((i 0).val * 1024 + (i 1).val) / 1024 = (i 0).val; omega)
  | 1 => exact Fin.ext (by show ((i 0).val * 1024 + (i 1).val) / 256 % 4 = (i 1).val / 256; omega)
  | 2 => exact Fin.ext (by show ((i 0).val * 1024 + (i 1).val) % 256 = (i 1).val % 256; omega)

/-- The mixer's output, head by head. -/
theorem v1_at (t : Fin 2048) (a : Fin 4) (j : Fin 256) : (val_main_v1 (F := Ideal) x1 x2 (ix3 t a j) : EReal) = both x1 x2 t a j := by
  rw [val_main_v1_apply, split]
  rfl

/-- A head's mean square. -/
theorem v8_at (t : Fin 2048) (a : Fin 4) : (val_main_v8 (F := Ideal) x1 x2 (ix3 t a 0) : EReal) = Gate.meanSq D (both x1 x2 t a) := by
  show Ideal.div (val_main_v4 (F := Ideal) x1 x2 (ix3 t a 0)) (val_main_v5 (F := Ideal) (ix3 t a 0)) + val_main_v7 (F := Ideal) (ix3 t a 0) = _
  rw [val_main_v4_apply, val_main_v3_apply, val_main_v5_apply, val_main_v7_apply]
  have hz : (val_main_cst (F := Ideal) (Shape.Idx.first h_S_) : EReal) = 0 := Ideal.ofBits_zero .f32
  rw [hz, zero_add]
  have hs : ∀ k : Fin 256, (val_main_v2 (F := Ideal) x1 x2 (idx_main_v3 (idx_main_v4 (ix3 t a 0)) k) : EReal) = both x1 x2 t a k * both x1 x2 t a k := fun k => by
    have hi : idx_main_v3 (idx_main_v4 (ix3 t a 0)) k = ix3 t a k := by
      funext q
      match q with
      | 0 => rfl
      | 1 => rfl
      | 2 => rfl
    rw [hi]
    exact congrArg₂ (· * ·) (v1_at x1 x2 t a k) (v1_at x1 x2 t a k)
  rw [Finset.sum_congr rfl fun k _ => hs k]
  rfl

/-- A head's reciprocal root. -/
theorem v9_at (t : Fin 2048) (a : Fin 4) : (val_main_v9 (F := Ideal) x1 x2 (ix3 t a 0) : EReal) = Gate.inv D (both x1 x2 t a) :=
  congrArg Ideal.rsqrt (v8_at x1 x2 t a)

/-- A normed entry. -/
theorem v14_at (t : Fin 2048) (a : Fin 4) (j : Fin 256) :
    (val_main_v14 (F := Ideal) x1 x2 (ix3 t a j) : EReal) = both x1 x2 t a j * Gate.inv D (both x1 x2 t a) := by
  show (val_main_v1 (F := Ideal) x1 x2 (ix3 t a j) : EReal) * val_main_v13 (F := Ideal) x1 x2 (ix3 t a j) = _
  rw [v1_at, val_main_v13_apply]
  have hi : idx_main_v13 (ix3 t a j) = ix3 t a 0 := by
    funext q
    match q with
    | 0 => rfl
    | 1 => rfl
    | 2 => rfl
  rw [hi, v9_at]

/-- The gate's sigmoid. -/
theorem v18_at (i : S2048x1024.Idx) : (val_main_v18_2 (F := Ideal) x3 i : EReal) = Ideal.logistic (x3 i) := by
  show Ideal.div (val_main_call0_v4 (F := Ideal) i) (val_main_call0_v2 (F := Ideal) i + Ideal.exp (-(x3 i))) = _
  rw [val_main_call0_v4_apply, val_main_call0_v2_apply]
  show Ideal.div (Ideal.ofBits .f32 0x3F800000#32) (Ideal.ofBits .f32 0x3F800000#32 + _) = _
  rw [Ideal.ofBits_one_f32]
  rfl

/-- The gradient of a normed entry times its weight. -/
theorem v24_at (t : Fin 2048) (a : Fin 4) (j : Fin 256) :
    (val_main_v24 (F := Ideal) x0 x3 (ix3 t a j) : EReal) = cut x0 t a j * Gate.silu (cut x3 t a j) := by
  show (val_main_v22 (F := Ideal) x0 (ix3 t a j) : EReal) * val_main_v19 (F := Ideal) x3 (ix3 t a j) = _
  rw [val_main_v22_apply, val_main_v19_apply]
  show x0 (idx_main_v1 (ix3 t a j)) * (x3 (idx_main_v1 (ix3 t a j)) * val_main_v18_2 (F := Ideal) x3 (idx_main_v1 (ix3 t a j))) = _
  rw [split, v18_at]
  rfl

/-- The weight, for every row of every head. -/
theorem v16_at (t : Fin 2048) (a : Fin 4) (j : Fin 256) : (val_main_v16 (F := Ideal) x4 (ix3 t a j) : EReal) = wt x4 j := by
  rw [val_main_v16_apply, val_main_v15_apply]
  refine congrArg x4 (funext fun q => ?_)
  match q with
  | 0 => rfl
  | 1 => rfl

/-- The gradient of a normed entry. -/
theorem v31_at (t : Fin 2048) (a : Fin 4) (j : Fin 256) :
    (val_main_v31 (F := Ideal) x0 x3 x4 (ix3 t a j) : EReal) = Gate.up (cut x3 t a) (cut x0 t a) (wt x4) j :=
  congrArg₂ (· * ·) (v24_at x0 x3 t a j) (v16_at x4 t a j)

/-- The gradient of a head's mean square. -/
theorem v41_at (t : Fin 2048) (a : Fin 4) : (val_main_v41 (F := Ideal) x0 x1 x2 x3 x4 (ix3 t a 0) : EReal)
    = Ideal.div ((∑ k, both x1 x2 t a k * Gate.up (cut x3 t a) (cut x0 t a) (wt x4) k)
      * (Ideal.ofBits .f32 0xBF000000#32 * Ideal.div (Gate.inv D (both x1 x2 t a)) (Gate.meanSq D (both x1 x2 t a)))) D := by
  show Ideal.div ((val_main_v36 (F := Ideal) x0 x1 x2 x3 x4 (ix3 t a 0) : EReal) * (val_main_v11 (F := Ideal) (ix3 t a 0)
    * Ideal.div (val_main_v9 (F := Ideal) x1 x2 (ix3 t a 0)) (val_main_v8 (F := Ideal) x1 x2 (ix3 t a 0)))) (val_main_v40 (F := Ideal) (ix3 t a 0)) = _
  rw [v8_at, v9_at, val_main_v36_apply, val_main_v35_apply, val_main_v11_apply, val_main_v40_apply]
  have hz : (val_main_cst_5 (F := Ideal) (Shape.Idx.first h_S_) : EReal) = 0 := Ideal.ofBits_zero .f32
  have hs : ∀ k : Fin 256, (val_main_v34 (F := Ideal) x0 x1 x2 x3 x4 (idx_main_v35 (idx_main_v36 (ix3 t a 0)) k) : EReal)
      = both x1 x2 t a k * Gate.up (cut x3 t a) (cut x0 t a) (wt x4) k := fun k => by
    have hi : idx_main_v35 (idx_main_v36 (ix3 t a 0)) k = ix3 t a k := by
      funext q
      match q with
      | 0 => exact Fin.ext (by show ((t.val * 4 + a.val) * 1 + 0) / 4 = t.val; omega)
      | 1 => exact Fin.ext (by show ((t.val * 4 + a.val) * 1 + 0) % 4 = a.val; omega)
      | 2 => rfl
    rw [hi]
    exact congrArg₂ (· * ·) (v1_at x1 x2 t a k) (v31_at x0 x3 x4 t a k)
  rw [hz, zero_add, Finset.sum_congr rfl fun k _ => hs k]
  rfl

/-- The gradient of the mixer's output, head by head. -/
theorem v47_at (t : Fin 2048) (a : Fin 4) (j : Fin 256) : (val_main_v47 (F := Ideal) x0 x1 x2 x3 x4 (ix3 t a j) : EReal)
    = Gate.dRow D (both x1 x2 t a) (cut x3 t a) (cut x0 t a) (wt x4) j := by
  show (val_main_v31 (F := Ideal) x0 x3 x4 (ix3 t a j) : EReal) * val_main_v37 (F := Ideal) x1 x2 (ix3 t a j)
    + val_main_v1 (F := Ideal) x1 x2 (ix3 t a j) * val_main_v43 (F := Ideal) x0 x1 x2 x3 x4 (ix3 t a j)
    + val_main_v43 (F := Ideal) x0 x1 x2 x3 x4 (ix3 t a j) * val_main_v1 (F := Ideal) x1 x2 (ix3 t a j) = _
  rw [v31_at, v1_at, val_main_v37_apply, val_main_v43_apply, val_main_v42_apply]
  have hr : idx_main_v37 (ix3 t a j) = ix3 t a 0 := by
    funext q
    match q with
    | 0 => rfl
    | 1 => rfl
    | 2 => rfl
  have hi : ∀ k : Fin 1, idx_main_v42 (idx_main_v43 (ix3 t a j)) k = ix3 t a 0 := fun k => by
    funext q
    match q with
    | 0 => rfl
    | 1 => rfl
    | 2 => exact Subsingleton.elim (α := Fin 1) _ _
  have hz : (val_main_cst_7 (F := Ideal) (Shape.Idx.first h_S_) : EReal) = 0 := Ideal.ofBits_zero .f32
  rw [hr, v9_at, hz, zero_add, Fin.sum_univ_one, hi, v41_at]
  have hD : D = ((256 : ℝ) : EReal) := Gate.ofBits_256
  rw [hD]
  exact Gate.dRow_eq (by norm_num) _ _ _ _ j _ rfl

/-- The gradient of the mixer's output. -/
theorem v48_at (i : S2048x1024.Idx) : (val_main_v48 (F := Ideal) x0 x1 x2 x3 x4 i : EReal)
    = Gate.dRow D (both x1 x2 (i 0) (head (i 1))) (cut x3 (i 0) (head (i 1))) (cut x0 (i 0) (head (i 1))) (wt x4) (place (i 1)) := by
  rw [val_main_v48_apply, join]
  exact v47_at x0 x1 x2 x3 x4 _ _ _

/-- The gradient of the gate, where the gradient of the output and the weight are finite. -/
theorem v26_at (h0 : ∀ i, ∃ y : ℝ, x0 i = y) (h4 : ∀ i, ∃ y : ℝ, x4 i = y) (i : S2048x1024.Idx) :
    (val_main_v26 (F := Ideal) x0 x1 x2 x3 x4 i : EReal)
      = Gate.dGate D (both x1 x2 (i 0) (head (i 1))) (cut x3 (i 0) (head (i 1))) (cut x0 (i 0) (head (i 1))) (wt x4) (place (i 1)) := by
  have hx : ∀ X : Arr, X i = cut X (i 0) (head (i 1)) (place (i 1)) := fun X => by
    refine congrArg X (funext fun q => ?_)
    match q with
    | 0 => rfl
    | 1 => exact (col_place _).symm
  have h25 : (val_main_v25 (F := Ideal) x0 x1 x2 x4 i : EReal) = both x1 x2 (i 0) (head (i 1)) (place (i 1))
      * Gate.inv D (both x1 x2 (i 0) (head (i 1))) * wt x4 (place (i 1)) * cut x0 (i 0) (head (i 1)) (place (i 1)) := by
    rw [val_main_v25_apply]
    show (val_main_v23 (F := Ideal) x0 x1 x2 x4 (idx_main_v48 i) : EReal) = _
    rw [join]
    refine congrArg₂ (· * ·) (congrArg₂ (· * ·) (v14_at x1 x2 _ _ _) (v16_at x4 _ _ _)) ?_
    exact (val_main_v22_apply (F := Ideal) x0 _).trans (congrArg x0 (split _ _ _))
  show (val_main_v25 (F := Ideal) x0 x1 x2 x4 i : EReal) * val_main_v18_2 (F := Ideal) x3 i
    + x3 i * val_main_v25 (F := Ideal) x0 x1 x2 x4 i * (val_main_v18_2 (F := Ideal) x3 i
      * (val_main_call0_v6 (F := Ideal) i - val_main_v18_2 (F := Ideal) x3 i)) = _
  rw [h25, v18_at, val_main_call0_v6_apply, hx x3]
  have h1 : (val_main_call0_cst_1 (F := Ideal) (idx_main_call0_v6 i) : EReal) = 1 := Ideal.ofBits_one_f32
  have hD : D = ((256 : ℝ) : EReal) := Gate.ofBits_256
  rw [h1, hD]
  exact Gate.dGate_eq (by norm_num) _ _ _ _ _ (h0 _) (h4 _)

/-- The gradient of the norm's weight. -/
theorem v33_at (j : S1x256.Idx) : (val_main_v33 (F := Ideal) x0 x1 x2 x3 j : EReal)
    = ∑ t : Fin 2048, ∑ a : Fin 4, Gate.dWeight D (both x1 x2 t a) (cut x3 t a) (cut x0 t a) (j 1) := by
  have h33 : idx_main_v33 j = ix1 (j 1) := by
    funext q
    match q with
    | 0 => rfl
  have h29 : idx_main_v29 (ix3 0 0 (j 1)) = ix1 (j 1) := by
    funext q
    match q with
    | 0 => exact Fin.ext (by show ((0 * 1 + 0) * 256 + (j 1).val) = (j 1).val; omega)
  rw [val_main_v33_apply, h33]
  refine (Gate.sum_two_axes reducesTo_S1x1x256_S256_d0_1 (val_main_v29 (F := Ideal) x0 x1 x2 x3) _ (j 1)).trans ?_
  rw [Fin.sum_univ_one, Fin.sum_univ_one, val_main_v29_apply, h29]
  have hz : (val_main_cst_4 (F := Ideal) (Shape.Idx.first h_S_) : EReal) = 0 := Ideal.ofBits_zero .f32
  have hz' : (val_main_cst_3 (F := Ideal) (Shape.Idx.first h_S_) : EReal) = 0 := Ideal.ofBits_zero .f32
  rw [hz, zero_add]
  refine (Gate.sum_two_axes reducesTo_S2048x4x256_S256_d0_1 (val_main_v27 (F := Ideal) x0 x1 x2 x3) _ (j 1)).trans ?_
  rw [hz', zero_add]
  refine Finset.sum_congr rfl fun t _ => Finset.sum_congr rfl fun a _ => ?_
  exact (congrArg₂ (· * ·) (v14_at x1 x2 t a _) (v24_at x0 x3 t a _)).trans (mul_comm _ _)

end Cert.Reference8Ideal.Gated
-- ==== Proof.GateGla.lean ====
module

public import proofs.«01_k».proof.Defs
public import proofs.«01_k».proof.Proof.Gen.Kernel8Ideal.Frame
public import proofs.«01_k».proof.Proof.Gen.Pre_finite8
public import proofs.«01_k».proof.Proof.GateGlaReference
public import Idealize.ShloMosaic.Lib.Pointwise
public import Idealize.ShloMosaic.Lib.Pipeline.ValueKit

/-! # The gated norm of the second mixer, backwards: what the kernel computes -/

@[expose] public section

set_option maxRecDepth 16384

noncomputable section

namespace Cert.Kernel8Ideal.Gated

open Cert.Reference8Ideal.Gated (D col head place cut both wt)
open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gradient of the gated norm's output. -/
abbrev DY (c : Dev nD) : S2048x1024.Idx → EReal := m ((c : Thread nD τ).loc main_arg0)
/-- The forward mixer's output, … -/
abbrev OF (c : Dev nD) : S2048x1024.Idx → EReal := m ((c : Thread nD τ).loc main_arg1)
/-- … the backward mixer's, … -/
abbrev OB (c : Dev nD) : S2048x1024.Idx → EReal := m ((c : Thread nD τ).loc main_arg2)
/-- … the gate before its SiLU, … -/
abbrev Z (c : Dev nD) : S2048x1024.Idx → EReal := m ((c : Thread nD τ).loc main_arg3)
/-- … and the norm's weight. -/
abbrev W (c : Dev nD) : S1x256.Idx → EReal := m ((c : Thread nD τ).loc main_arg4)

/-- The gradient of the mixer's output. -/
def G5 (c : Dev nD) : S2048x1024.Idx → EReal := fun i =>
  Gate.dRow D (both (OF m c) (OB m c) (i 0) (head (i 1))) (cut (Z m c) (i 0) (head (i 1))) (cut (DY m c) (i 0) (head (i 1))) (wt (W m c)) (place (i 1))
/-- The gradient of the gate. -/
def G6 (c : Dev nD) : S2048x1024.Idx → EReal := fun i =>
  Gate.dGate D (both (OF m c) (OB m c) (i 0) (head (i 1))) (cut (Z m c) (i 0) (head (i 1))) (cut (DY m c) (i 0) (head (i 1))) (wt (W m c)) (place (i 1))
/-- The gradient of the norm's weight. -/
def G7 (c : Dev nD) : S1x256.Idx → EReal := fun j =>
  ∑ t : Fin 2048, ∑ a : Fin 4, Gate.dWeight D (both (OF m c) (OB m c) t a) (cut (Z m c) t a) (cut (DY m c) t a) (j 1)

/-! ## The blocks read -/

/-- The blocks that each point works on. -/
theorem idx (t : Fin cfg0.N) : win0_0.index t = ![t.val, 0] ∧ win0_1.index t = ![t.val, 0] ∧ win0_2.index t = ![t.val, 0]
    ∧ win0_3.index t = ![t.val, 8] ∧ win0_4.index t = ![0, 0] ∧ win0_5.index t = ![t.val, 0] ∧ win0_6.index t = ![t.val, 8]
    ∧ win0_7.index t = ![0, 0] := by
  revert t; decide +kernel

/-- Row `r` of the block of point `t`. -/
def row (t : Fin cfg0.N) (r : Fin 512) : Fin 2048 := ⟨t.val * 512 + r.val, by have : t.val < 4 := t.isLt; omega⟩

/-- A point's rows of the gradient of the output. -/
theorem b0 (c : Dev nD) (t : Fin cfg0.N) (r : Fin 512) (k : Fin 1024) : (iblk m c 0 t (ix2 r k) : EReal) = DY m c (ix2 (row t r) k) := by
  blk_ext [iblk, idx t, row]
/-- A point's rows of the forward mixer's output. -/
theorem b1 (c : Dev nD) (t : Fin cfg0.N) (r : Fin 512) (k : Fin 1024) : (iblk m c 1 t (ix2 r k) : EReal) = OF m c (ix2 (row t r) k) := by
  blk_ext [iblk, idx t, row]
/-- A point's rows of the backward mixer's output. -/
theorem b2 (c : Dev nD) (t : Fin cfg0.N) (r : Fin 512) (k : Fin 1024) : (iblk m c 2 t (ix2 r k) : EReal) = OB m c (ix2 (row t r) k) := by
  blk_ext [iblk, idx t, row]
/-- The norm's weight, whole at every point. -/
theorem b4 (c : Dev nD) (t : Fin cfg0.N) (j : Fin 256) : (iblk m c 4 t (ix2 0 j) : EReal) = W m c (ix2 0 j) := by
  blk_ext [iblk, idx t]

/-- Columns 8192 … 9215 of the projections are the gate. -/
theorem V_z (c : Dev nD) (i : S2048x9728.Idx) (k : Fin 1024) (h : (i 1).val = 8192 + k.val) : (V m c main_v3 i : EReal) = Z m c (ix2 (i 0) k) := by
  show (StableHlo.after hostOps0 (fun b => m (c, b)) (Proc.devRef .tc main_v3) i : EReal) = _
  after_results
  pointwise
  refine (dif_neg (by omega)).trans ((dif_pos (by omega)).trans ?_)
  show Z m c _ = _
  exact congrArg (fun q => Z m c (ix2 (i 0) q)) (Fin.ext (by show (i 1).val - 8192 = k.val; omega))

/-- A point's rows of the gate, read out of the projections' array. -/
theorem b3 (c : Dev nD) (t : Fin cfg0.N) (r : Fin 512) (k : Fin 1024) : (X0_3 m c t (ix2 r k) : EReal) = Z m c (ix2 (row t r) k) := by
  refine (dif_pos (moved0_3 t _)).trans ?_
  refine (V_z m c _ k (by blk_simp [idx t])).trans ?_
  blk_ext [idx t, row]

/-! ## One head of a point -/

/-- The columns of a head lie in the block. -/
theorem inb (a : Fin 4) : ∀ q : Fin S512x1024.rank, (![0, 256 * a.val] : Fin 2 → ℕ) q + (![512, 256] : Fin 2 → ℕ) q ≤ S512x1024.size q := by
  revert a; decide

/-- A head's columns of a block. -/
abbrev slab (X : S512x1024.Idx → Elt Ideal .f32) (a : Fin 4) : S512x256.Idx → Elt Ideal .f32 :=
  View.ld X (Rect.unit (s := S512x1024) ![0, 256 * a.val] ![512, 256] (inb a))

/-- A head's columns, at an index. -/
theorem slab_apply (X : S512x1024.Idx → Elt Ideal .f32) (a : Fin 4) (r : Fin 512) (j : Fin 256) : (slab X a (ix2 r j) : EReal) = X (ix2 r (col a j)) := by
  refine View.ld_unit_apply_of (Val := Elt Ideal) X _ _ _ (ix2 r j) (ix2 r (col a j)) fun q => ?_
  match q with
  | 0 => exact (zero_add _).symm
  | 1 => rfl

/-- What the body stores of a head's gradient. -/
def headO (of ob z dy : FVec Ideal S512x256 .f32) (w : FVec Ideal S1x256 .f32) : FVec Ideal S512x256 .f32 :=
  k0_pay11 (k0_pay3 of ob) (k0_pay5 of ob) (k0_pay7 z dy) (k0_pay10 w)
/-- What the body stores of a head's gate. -/
def headZ (of ob z dy : FVec Ideal S512x256 .f32) (w : FVec Ideal S1x256 .f32) : FVec Ideal S512x256 .bf16 := k0_pay8 w of ob z dy

/-- A head's gradient, row by row. -/
theorem headO_apply (of ob z dy : FVec Ideal S512x256 .f32) (w : FVec Ideal S1x256 .f32) (r : Fin 512) (j : Fin 256) :
    (headO of ob z dy w (ix2 r j) : EReal)
      = Gate.dRow D (fun k => of (ix2 r k) + ob (ix2 r k)) (fun k => z (ix2 r k)) (fun k => dy (ix2 r k)) (fun k => w (ix2 0 k)) j := by
  unfold headO k0_pay11 k0_pay3 k0_pay5 k0_pay7 k0_pay10 k0_pay3 k0_pay4 Gate.dRow Gate.up Gate.inv Gate.meanSq Gate.silu
  pointwise

/-- A head's gate, row by row. -/
theorem headZ_apply (of ob z dy : FVec Ideal S512x256 .f32) (w : FVec Ideal S1x256 .f32) (r : Fin 512) (j : Fin 256) :
    (headZ of ob z dy w (ix2 r j) : EReal)
      = Gate.dGate D (fun k => of (ix2 r k) + ob (ix2 r k)) (fun k => z (ix2 r k)) (fun k => dy (ix2 r k)) (fun k => w (ix2 0 k)) j := by
  unfold headZ k0_pay8 k0_pay6 k0_pay5 k0_pay4 k0_pay3 Gate.dGate Gate.inv Gate.meanSq
  rw [← Ideal.ofBits_one_f32]
  pointwise

/-- Four heads side by side, read at an index. -/
theorem heads {e : EltTy} (P : Fin 4 → S512x256.Idx → Elt Ideal e) (y : S512x1024.Idx) (v : Elt Ideal e)
    (h : ∀ a (r : Fin 512) (j : Fin 256), (y 0).val = r.val → (y 1).val = 256 * a.val + j.val → P a (ix2 r j) = v) :
    View.canon (Val := Elt Ideal) (List.ofFn fun a : Fin 4 => (⟨Rect.unit (s := S512x1024) ![0, 256 * a.rev.val] ![512, 256] (inb a.rev), P a.rev⟩ : View.Piece (Elt Ideal) S512x1024 e)) y = v := by
  have hy : (y 1).val < 1024 := (y 1).isLt
  refine View.canon_ofFn_unit_eq_of_forall (fun a : Fin 4 => ![0, 256 * a.rev.val]) ![512, 256] (fun a => inb a.rev) (fun a => P a.rev) y v
    ⟨(⟨(y 1).val / 256, by omega⟩ : Fin 4).rev, fun q => ?_⟩ fun a x hx => ?_
  · rw [Fin.rev_rev]
    match q with
    | 0 => exact ⟨Nat.zero_le _, (zero_add 512).symm ▸ (y 0).isLt⟩
    | 1 => exact ⟨by show 256 * ((y 1).val / 256) ≤ _; omega, by show _ < 256 * ((y 1).val / 256) + 256; omega⟩
  · have hx' : x = ix2 (x 0) (x 1) := by blk_ext
    rw [hx']
    exact h a.rev (x 0) (x 1) ((hx 0).trans (zero_add _)) (hx 1)

/-- The point is the first or not. -/
theorem cases_t (t : Fin cfg0.N) : (t.val % 4 = 0 ∧ ¬1 ≤ t.val) ∨ (¬t.val % 4 = 0 ∧ 1 ≤ t.val) := by
  have : t.val < 4 := t.isLt
  omega

/-- A point's row of a head: what is read is the arrays' row. -/
theorem rows (c : Dev nD) (t : Fin cfg0.N) (r : Fin 512) (a : Fin 4) :
    ((fun k => (slab (iblk m c 1 t) a (ix2 r k) : EReal) + slab (iblk m c 2 t) a (ix2 r k)) = both (OF m c) (OB m c) (row t r) a)
    ∧ ((fun k => (slab (X0_3 m c t) a (ix2 r k) : EReal)) = cut (Z m c) (row t r) a)
    ∧ ((fun k => (slab (iblk m c 0 t) a (ix2 r k) : EReal)) = cut (DY m c) (row t r) a)
    ∧ (fun k => (iblk m c 4 t (ix2 0 k) : EReal)) = wt (W m c) := by
  refine ⟨funext fun k => ?_, funext fun k => ?_, funext fun k => ?_, funext fun k => b4 m c t k⟩
  · exact congrArg₂ (· + ·) ((slab_apply _ a r k).trans (b1 m c t r _)) ((slab_apply _ a r k).trans (b2 m c t r _))
  · exact (slab_apply _ a r k).trans (b3 m c t r _)
  · exact (slab_apply _ a r k).trans (b0 m c t r _)

/-- A point leaves its rows of the mixer's gradient. -/
theorem block5 (c : Dev nD) (t : Fin cfg0.N) (y : S512x1024.Idx) (i : S2048x1024.Idx) (h0 : (i 0).val = t.val * 512 + (y 0).val) (h1 : (i 1).val = (y 1).val) :
    ((dats m 0 c).after 5 t y : EReal) = G5 m c i := by
  have key : View.canon (Val := Elt Ideal) (List.ofFn fun a : Fin 4 => (⟨Rect.unit (s := S512x1024) ![0, 256 * a.rev.val] ![512, 256] (inb a.rev),
      headO (slab (iblk m c 1 t) a.rev) (slab (iblk m c 2 t) a.rev) (slab (X0_3 m c t) a.rev) (slab (iblk m c 0 t) a.rev) (iblk m c 4 t)⟩
        : View.Piece (Elt Ideal) S512x1024 .f32)) y = G5 m c i := by
    refine heads (e := .f32) (fun a => headO (slab (iblk m c 1 t) a) (slab (iblk m c 2 t) a) (slab (X0_3 m c t) a) (slab (iblk m c 0 t) a) (iblk m c 4 t)) y (G5 m c i)
      fun a r j hr hj => Eq.trans (α := EReal) (headO_apply _ _ _ _ _ r j) ?_
    have hi0 : i 0 = row t r := Fin.ext (by rw [h0, hr]; rfl)
    have hi1 : head (i 1) = a := Fin.ext (by show (i 1).val / 256 = _; rw [h1, hj]; omega)
    have hi2 : place (i 1) = j := Fin.ext (by show (i 1).val % 256 = _; rw [h1, hj]; omega)
    obtain ⟨e1, e2, e3, e4⟩ := rows m c t r a
    unfold G5
    rw [hi0, hi1, hi2, e1, e2, e3, e4]
  rw [after0_5]
  rcases cases_t t with ⟨h, h1⟩ | ⟨h, h1⟩
  · rw [outsAt0_A m c t h h1]
    frame_out
    exact key
  · rw [outsAt0_B m c t h h1]
    frame_out
    exact key

/-- A point leaves its rows of the gate's gradient. -/
theorem block6 (c : Dev nD) (t : Fin cfg0.N) (y : S512x1024.Idx) (i : S2048x1024.Idx) (h0 : (i 0).val = t.val * 512 + (y 0).val) (h1 : (i 1).val = (y 1).val) :
    ((dats m 0 c).after 6 t y : EReal) = G6 m c i := by
  have key : View.canon (Val := Elt Ideal) (List.ofFn fun a : Fin 4 => (⟨Rect.unit (s := S512x1024) ![0, 256 * a.rev.val] ![512, 256] (inb a.rev),
      headZ (slab (iblk m c 1 t) a.rev) (slab (iblk m c 2 t) a.rev) (slab (X0_3 m c t) a.rev) (slab (iblk m c 0 t) a.rev) (iblk m c 4 t)⟩
        : View.Piece (Elt Ideal) S512x1024 .bf16)) y = G6 m c i := by
    refine heads (e := .bf16) (fun a => headZ (slab (iblk m c 1 t) a) (slab (iblk m c 2 t) a) (slab (X0_3 m c t) a) (slab (iblk m c 0 t) a) (iblk m c 4 t)) y (G6 m c i)
      fun a r j hr hj => Eq.trans (α := EReal) (headZ_apply _ _ _ _ _ r j) ?_
    have hi0 : i 0 = row t r := Fin.ext (by rw [h0, hr]; rfl)
    have hi1 : head (i 1) = a := Fin.ext (by show (i 1).val / 256 = _; rw [h1, hj]; omega)
    have hi2 : place (i 1) = j := Fin.ext (by show (i 1).val % 256 = _; rw [h1, hj]; omega)
    obtain ⟨e1, e2, e3, e4⟩ := rows m c t r a
    unfold G6
    rw [hi0, hi1, hi2, e1, e2, e3, e4]
  rw [after0_6]
  rcases cases_t t with ⟨h, h1⟩ | ⟨h, h1⟩
  · rw [outsAt0_A m c t h h1]
    frame_out
    exact key
  · rw [outsAt0_B m c t h h1]
    frame_out
    exact key

/-- What a head of a point adds to the weight's gradient. -/
def headW (of ob z dy : FVec Ideal S512x256 .f32) : Fin 256 → EReal := fun j =>
  ∑ r : Fin 512, Gate.dWeight D (fun k => of (ix2 r k) + ob (ix2 r k)) (fun k => z (ix2 r k)) (fun k => dy (ix2 r k)) j

/-- What a point adds to the weight's gradient. -/
def part (c : Dev nD) (t : Fin cfg0.N) : Fin 256 → EReal := fun j => ∑ a : Fin 4,
  headW (slab (iblk m c 1 t) a) (slab (iblk m c 2 t) a) (slab (X0_3 m c t) a) (slab (iblk m c 0 t) a) j

/-- A head's rows added to what the heads before it gave. -/
def addW (s : FVec Ideal S1x256 .f32) (of ob z dy : FVec Ideal S512x256 .f32) : FVec Ideal S1x256 .f32 := k0_pay21 s (k0_pay6 of ob) (k0_pay7 z dy)

/-- The sum with a head added, feature by feature. -/
theorem addW_apply (s : FVec Ideal S1x256 .f32) (of ob z dy : FVec Ideal S512x256 .f32) (j : Fin 256) :
    (addW s of ob z dy (ix2 0 j) : EReal) = s (ix2 0 j) + headW of ob z dy j := by
  unfold addW k0_pay21 k0_pay6 k0_pay7 k0_pay5 k0_pay4 k0_pay3 headW Gate.dWeight Gate.inv Gate.meanSq Gate.silu
  pointwise

/-- A point's four heads, added one after the other. -/
def sumW (of ob z dy : S512x1024.Idx → Elt Ideal .f32) : FVec Ideal S1x256 .f32 :=
  addW (addW (addW (addW (broadcast S1x256 (Scalar.ofBits .f32 0x00000000#32))
    (slab of 0) (slab ob 0) (slab z 0) (slab dy 0)) (slab of 1) (slab ob 1) (slab z 1) (slab dy 1))
    (slab of 2) (slab ob 2) (slab z 2) (slab dy 2)) (slab of 3) (slab ob 3) (slab z 3) (slab dy 3)

/-- What a point's heads give together. -/
theorem sumW_apply (c : Dev nD) (t : Fin cfg0.N) (j : Fin 256) :
    (sumW (iblk m c 1 t) (iblk m c 2 t) (X0_3 m c t) (iblk m c 0 t) (ix2 0 j) : EReal) = part m c t j := by
  unfold sumW part
  rw [addW_apply, addW_apply, addW_apply, addW_apply, Fin.sum_univ_four]
  show Ideal.ofBits .f32 0x00000000#32 + _ + _ + _ + _ = _
  rw [Ideal.ofBits_zero, zero_add]

/-- The first point starts the weight's gradient. -/
theorem start7 (c : Dev nD) (t : Fin cfg0.N) (h : t.val % 4 = 0) (j : Fin 256) :
    ((outsAt0 m c t.val t.isLt).2.2 (ix2 0 j) : EReal) = 0 + part m c t j := by
  rw [outsAt0_A m c t h (by have : t.val < 4 := t.isLt; omega)]
  frame_out
  exact (sumW_apply m c t j).trans (zero_add _).symm

/-- A point's sum added to the points' before it. -/
theorem more (s v : FVec Ideal S1x256 .f32) (i : S1x256.Idx) : (k0_pay2 v s i : EReal) = s i + v i := by
  unfold k0_pay2
  pointwise

/-- Every other point adds its heads' sums. -/
theorem step7 (c : Dev nD) (t : Fin cfg0.N) (h : ¬t.val % 4 = 0) (j : Fin 256) :
    ((outsAt0 m c t.val t.isLt).2.2 (ix2 0 j) : EReal)
      = (outsAt0 m c (t.val - 1) (Nat.lt_of_le_of_lt (Nat.sub_le _ _) t.isLt)).2.2 (ix2 0 j) + part m c t j := by
  rw [outsAt0_B m c t h (by omega)]
  frame_out
  refine (more _ _ _).trans (congrArg (_ + ·) ?_)
  exact sumW_apply m c t j

/-! ## The arrays the kernel leaves -/

/-- The kernel leaves the mixer's gradient. -/
theorem arr5 (c : Dev nD) : (dats m 0 c).arrAt 5 (cfgs 0).N = G5 m c := by
  refine (dats m 0 c).arrAt_eq_of_covers 5 _ (by decide +kernel) fun t hf y => ?_
  have hi : win0_5.index t = ![t.val, 0] := (idx t).2.2.2.2.2.1
  refine block5 m c t y ((win0_5.blk t).view.emb y) ?_ ?_
  · show win0_5.index t 0 * 512 + 1 * (y 0).val = _
    rw [hi, one_mul]
    rfl
  · show win0_5.index t 1 * 1024 + 1 * (y 1).val = _
    rw [hi, one_mul]
    exact zero_add _

/-- The gate's gradient where it lies among the projections'. -/
def D6 (c : Dev nD) : S2048x9728.Idx → EReal := fun i =>
  if h : 8192 ≤ (i 1).val ∧ (i 1).val < 9216 then G6 m c (ix2 (i 0) ⟨(i 1).val - 8192, by omega⟩) else 0

/-- A point's block of it is the point's rows of the gate's gradient. -/
theorem d6_of (c : Dev nD) (t : Fin cfg0.N) (y : S512x1024.Idx) (i : S2048x9728.Idx) (h0 : (i 0).val = t.val * 512 + (y 0).val)
    (h1 : (i 1).val = 8192 + (y 1).val) : ((dats m 0 c).after 6 t y : EReal) = D6 m c i := by
  have hy : (y 1).val < 1024 := (y 1).isLt
  have h2 : 8192 ≤ (i 1).val ∧ (i 1).val < 9216 := by omega
  unfold D6
  rw [dif_pos h2]
  refine block6 m c t y (ix2 (i 0) ⟨(i 1).val - 8192, by omega⟩) h0 ?_
  show (i 1).val - 8192 = _
  omega

/-- The kernel leaves the gate's gradient in the columns that it writes. -/
theorem arr6 (c : Dev nD) (i : S2048x9728.Idx) (hi : 8192 ≤ (i 1).val ∧ (i 1).val < 9216) : ((dats m 0 c).arrAt 6 (cfgs 0).N i : EReal) = D6 m c i := by
  refine ((dats m 0 c).arrAt_apply_of_coversWhere 6 (D6 m c) (P := fun i => (i 1).val / 1024 = 8) (fun β => β (1 : Fin _) = 8) (by decide +kernel)
    (fun t hf y => ?_) (fun j => by blk_simp [Pipeline.Window.cell_apply]) i).trans (if_pos (by omega))
  have hx : win0_6.index t = ![t.val, 8] := (idx t).2.2.2.2.2.2.1
  refine d6_of m c t _ _ ?_ ?_
  · show win0_6.index t 0 * 512 + 1 * (y 0).val = _
    rw [hx, one_mul]
    rfl
  · show win0_6.index t 1 * 1024 + 1 * (y 1).val = _
    rw [hx, one_mul]
    rfl

/-- The kernel leaves the gradient of the norm's weight. -/
theorem arr7 (c : Dev nD) : (dats m 0 c).arrAt 7 (cfgs 0).N = G7 m c := by
  refine (dats m 0 c).arrAt_eq_of_after_last 7 t0_3 (by decide +kernel) _ fun j => ?_
  blk_simp
  rw [after0_7]
  have hj : j = ix2 0 (j 1) := by blk_ext
  rw [hj]
  refine (Pipeline.eq_sum_fin_of_reset_step_apply_last (fun n h (i : Fin 256) => (outsAt0 m c n h).2.2 (ix2 0 i)) 4 (fun _ => (0 : EReal)) (part m c)
    (start7 m c) (step7 m c) (by decide) t0_3 rfl (j 1)).trans ?_
  unfold part headW G7
  refine Eq.trans (congrArg (0 + ·) (Finset.sum_congr rfl fun t _ => Finset.sum_comm)) ?_
  rw [zero_add]
  refine Fin.sum_mul_add_congr fun t r hl => Finset.sum_congr rfl fun a _ => ?_
  obtain ⟨e1, e2, e3, -⟩ := rows m c t r a
  rw [e1, e2, e3]
  rfl

/-- The lines after the kernel find each of its arrays as the kernel leaves it. -/
theorem left (c : Dev nD) (w : Fin (cfgs 0).W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr (cfgs 0).spec (by decide) c (V0 m c) _ w

/-- The gate's gradient, cut out of the projections' and widened by the lines after the kernel. -/
theorem tail6 (c : Dev nD) : Pipeline.afterTail₀ cfgs (dats m) 0 (V0 m) [hostOps1] c main_v6 = G6 m c := by
  have hw := left m c 6
  show StableHlo.after hostOps1 (Pipeline.withArrays (cfgs 0).spec c (V0 m c) fun w => (dats m 0 c).arrAt w (cfgs 0).N) (Proc.devRef .tc main_v6) = _
  generalize Pipeline.withArrays (cfgs 0).spec c (V0 m c) (fun w => (dats m 0 c).arrAt w (cfgs 0).N) = B at hw ⊢
  after_results
  funext i
  pointwise
  have h1 : (i 1).val < 1024 := (i 1).isLt
  have h2 : 8192 ≤ 8192 + (i 1).val ∧ 8192 + (i 1).val < 9216 := by omega
  refine (congrFun hw _).trans ((arr6 m c _ h2).trans ((dif_pos h2).trans (congrArg (G6 m c) (funext fun q => ?_))))
  match q with
  | 0 => rfl
  | 1 => exact Fin.ext (Nat.add_sub_cancel_left 8192 _)

/-- The run of the program. -/
theorem run : θ_run defs (onTc (τ := τ) (main (F := Ideal))) ⟨m, fun _ => 0, ρ⟩ fun r => ∀ c : Dev nD,
    r.2.mem ((c : Thread nD τ).loc main_v4_0) = G5 m c ∧ r.2.mem ((c : Thread nD τ).loc main_v6) = G6 m c
      ∧ r.2.mem ((c : Thread nD τ).loc main_v4_2) = G7 m c :=
  (θ_run defs _ _).mono (fun r h c => ⟨((h c).1 5).trans (arr5 m c), ((h c).2 main_v6 (Pipeline.mem_restRefs_of main_v6 (by decide) (by decide))).trans (tail6 m c),
    ((h c).1 7).trans (arr7 m c)⟩) (run_main m ρ)

/-- The precondition: the gradient of the output and the weight are real numbers. -/
theorem finite (hp : Pre_Kernel8Ideal_finite8 (hPre_finite8 := Pre_finite8.Gen.facts) m) (c : Dev nD) :
    (∀ i, ∃ y : ℝ, DY m c i = y) ∧ ∀ i, ∃ y : ℝ, W m c i = y :=
  ⟨fun i => Gate.real_of_finite _ (congrFun (hp c).1 i), fun i => Gate.real_of_finite _ (congrFun (hp c).2 i)⟩

/-- The gated norm of the second mixer, backwards: kernel and reference end with the same three gradients. -/
theorem algebraic : algebraic_Kernel8Ideal_Reference8Ideal_pre_finite8 (hKernel8Ideal := Kernel8Ideal.Gen.facts)
    (hReference8Ideal := Reference8Ideal.Gen.facts) (hPre_finite8 := Pre_finite8.Gen.facts) := by
  intro m g m' g' hp hagree
  refine ⟨_, _, _, (θ_run _ _ _).mono (fun r h c => ⟨(h.1 c).1, (h.1 c).2.1, (h.1 c).2.2, h.2 c⟩) (θ_run_and (run m g) (Kernel8Ideal.Gen.unchanged m g)),
    (θ_run _ _ _).mono (fun r h c => ⟨(h c).1.trans ?_, (h c).2.1.trans ?_, (h c).2.2.1.trans ?_, (h c).2.2.2⟩) (Reference8Ideal.Value.run m' g')⟩
  · rw [Reference8Ideal.Read.val_main_v48_eq, (hagree c).1, (hagree c).2.1, (hagree c).2.2.1, (hagree c).2.2.2.1, (hagree c).2.2.2.2]
    exact funext fun i => Reference8Ideal.Gated.v48_at (DY m c) (OF m c) (OB m c) (Z m c) (W m c) i
  · rw [Reference8Ideal.Read.val_main_v26_eq, (hagree c).1, (hagree c).2.1, (hagree c).2.2.1, (hagree c).2.2.2.1, (hagree c).2.2.2.2]
    exact funext fun i => Reference8Ideal.Gated.v26_at (DY m c) (OF m c) (OB m c) (Z m c) (W m c) (finite m hp c).1 (finite m hp c).2 i
  · rw [Reference8Ideal.Read.val_main_v33_eq, (hagree c).1, (hagree c).2.1, (hagree c).2.2.1, (hagree c).2.2.2.1]
    exact funext fun j => Reference8Ideal.Gated.v33_at (DY m c) (OF m c) (OB m c) (Z m c) j

end Cert.Kernel8Ideal.Gated
-- ==== Proof.Adam.lean ====
module

public import Idealize.ShloMosaic.Lib.Pointwise

@[expose] public section

noncomputable section

/-! One step of the optimiser for one number: the sum of the devices' parts of its gradient, the two running means, and the change
of the weight. -/

namespace Cert.Adam

open Idealize.ShloMosaic

/-- The running mean of the gradient after the step. -/
def mean (m g : EReal) : EReal := Ideal.ofBits .f32 0x3F666666#32 * m + Ideal.ofBits .f32 0x3DCCCCCD#32 * g
/-- The running mean of the gradient's square after the step. -/
def square (v g : EReal) : EReal := Ideal.ofBits .f32 0x3F7FBE77#32 * v + Ideal.ofBits .f32 0x3A83126F#32 * (g * g)
/-- The change of the weight. -/
def delta (w m v g : EReal) : EReal :=
  Ideal.ofBits .f32 0xBA83126F#32
    * (Ideal.div (Ideal.div (mean m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

/-- The device's own part of a gradient and the parts that landed from the others. -/
def total {n : ℕ} (own : EReal) (land : Fin n → EReal) : EReal := own + ∑ k, land k

/-- Three parts added one after the other to the own one. -/
theorem total_three (o a b c : EReal) : o + a + b + c = total o ![a, b, c] := by
  simp [total, Fin.sum_univ_succ, add_assoc]

/-- Seven parts added one after the other to the own one. -/
theorem total_seven (o a b c d e f g : EReal) : o + a + b + c + d + e + f + g = total o ![a, b, c, d, e, f, g] := by
  simp [total, Fin.sum_univ_succ, add_assoc]

end Cert.Adam
-- ==== Proof.AdamProj.lean ====
module

public import proofs.«01_k».proof.Proof.Gen.Kernel9Ideal.Frame
public import proofs.«01_k».proof.Defs
public import proofs.«01_k».proof.Proof.Gen.Reference9Ideal.Run
public import proofs.«01_k».proof.Proof.Adam
public import Idealize.ShloMosaic.Lib.Pointwise
public import Idealize.ShloMosaic.Lib.Pipeline.ValueKit

/-! # The optimiser's step for the three projections that leave the mixers and the layer -/

@[expose] public section

set_option maxRecDepth 16384

noncomputable section

namespace Cert.Kernel9Ideal.AdamProj

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The parts of the gradient that landed, one slot for each device. -/
abbrev Land (c : Dev nD) : S8x384x1024.Idx → EReal := m ((c : Thread nD τ).loc main_arg0)
/-- The device's own parts. -/
abbrev Own (c : Dev nD) : S8x384x1024.Idx → EReal := m ((c : Thread nD τ).loc main_arg1)
/-- The three weights' rows, one below the other, as the host lays them out. -/
abbrev Wt (c : Dev nD) : S384x1024.Idx → EReal := V m c main_v1
/-- The running means of their gradients. -/
abbrev Mn (c : Dev nD) : S384x1024.Idx → EReal := V m c main_v3
/-- The running means of their gradients' squares. -/
abbrev Sq (c : Dev nD) : S384x1024.Idx → EReal := V m c main_v5

/-- The blocks that each point works on. -/
theorem idx (t : Fin cfg0.N) : win0_0.index t = ![0, t.val, 0] ∧ win0_1.index t = ![t.val, 0] ∧ win0_2.index t = ![t.val, 0]
    ∧ win0_3.index t = ![t.val, 0] ∧ win0_4.index t = ![0, t.val, 0] ∧ win0_5.index t = ![t.val, 0] ∧ win0_6.index t = ![t.val, 0]
    ∧ win0_7.index t = ![t.val, 0] ∧ win0_8.index t = ![t.val, 0] := by
  revert t; decide +kernel

/-- The summed gradient. -/
def G (c : Dev nD) : S384x1024.Idx → EReal := fun i =>
  Adam.total (Own m c (ix3 0 (i 0) (i 1))) fun k : Fin 7 => Land m c (ix3 ⟨1 + k.val, by omega⟩ (i 0) (i 1))

/-- What the body adds up in a block. -/
theorem sum_apply (x0 : Vec Ideal S8x128x1024 .bf16) (x1 x2 x3 : Vec Ideal S128x1024 .f32) (x4 : Vec Ideal S1x128x1024 .bf16)
    (y : S128x1024.Idx) : (k0_pay5 (k0_pay9 x0 x1 x2 x3 x4) (k0_pay10 x0 x1 x2 x3 x4) : FVec Ideal S128x1024 .f32) y
      = Adam.total (x4 (ix3 0 (y 0) (y 1)) : EReal) fun k : Fin 7 => (x0 (ix3 ⟨1 + k.val, by omega⟩ (y 0) (y 1)) : EReal) := by
  unfold k0_pay5 k0_pay9 k0_pay10 k0_pay4 k0_pay3 k0_pay2 k0_pay1
  pointwise
  exact (Adam.total_seven _ _ _ _ _ _ _ _).trans (congrArg (Adam.total _) (funext fun k => by fin_cases k <;> rfl))

/-- A block's sum of parts is the rows' gradient. -/
theorem sum_block (c : Dev nD) (t : Fin cfg0.N) (y : S128x1024.Idx) (i : S384x1024.Idx) (h0 : (i 0).val = t.val * 128 + (y 0).val)
    (h1 : (i 1).val = (y 1).val) :
    (k0_pay5 (k0_pay9 (iblk m c 0 t) (iblk m c 1 t) (iblk m c 2 t) (iblk m c 3 t) (iblk m c 4 t))
      (k0_pay10 (iblk m c 0 t) (iblk m c 1 t) (iblk m c 2 t) (iblk m c 3 t) (iblk m c 4 t)) : FVec Ideal S128x1024 .f32) y = G m c i := by
  rw [sum_apply]
  unfold G
  have ho : (iblk m c 4 t (ix3 0 (y 0) (y 1)) : EReal) = Own m c (ix3 0 (i 0) (i 1)) := by
    blk_point [iblk, idx t]
  have hl (k : Fin 7) : (iblk m c 0 t (ix3 ⟨1 + k.val, by omega⟩ (y 0) (y 1)) : EReal) = Land m c (ix3 ⟨1 + k.val, by omega⟩ (i 0) (i 1)) := by
    blk_point [iblk, idx t]
  rw [ho]
  exact congrArg (Adam.total _) (funext hl)

/-- The kernel leaves the summed gradient. -/
theorem arr5 (c : Dev nD) : (dats m 0 c).arrAt 5 (cfgs 0).N = G m c := by
  refine (dats m 0 c).arrAt_eq_of_covers 5 _ (by decide +kernel) fun t hf y => ?_
  blk_simp
  rw [after0_5]
  unfold out0_5
  frame_out
  exact sum_block m c t y _ (by blk_simp [idx t]) (by blk_simp [idx t])

/-- The kernel leaves the weights' changes. -/
theorem arr6 (c : Dev nD) : (dats m 0 c).arrAt 6 (cfgs 0).N = fun i => Adam.delta (Wt m c i) (Mn m c i) (Sq m c i) (G m c i) := by
  refine (dats m 0 c).arrAt_eq_of_covers 6 _ (by decide +kernel) fun t hf y => ?_
  blk_simp
  rw [after0_6]
  unfold out0_6 k0_pay8 k0_pay7 k0_pay6
  frame_out
  pointwise
  rw [sum_block m c t y (((View.whole main_v6_1).slice (win0_6.rect t)).emb y)
    (by blk_simp [idx t]) (by blk_simp [idx t])]
  have hw : (iblk m c 1 t y : EReal) = Wt m c (((View.whole main_v6_1).slice (win0_6.rect t)).emb y) := by blk_point [iblk, idx t]
  have hm : (iblk m c 2 t y : EReal) = Mn m c (((View.whole main_v6_1).slice (win0_6.rect t)).emb y) := by blk_point [iblk, idx t]
  have hv : (iblk m c 3 t y : EReal) = Sq m c (((View.whole main_v6_1).slice (win0_6.rect t)).emb y) := by blk_point [iblk, idx t]
  rw [hw, hm, hv]
  rfl

/-- The kernel leaves the running mean of the gradient. -/
theorem arr7 (c : Dev nD) : (dats m 0 c).arrAt 7 (cfgs 0).N = fun i => Adam.mean (Mn m c i) (G m c i) := by
  refine (dats m 0 c).arrAt_eq_of_covers 7 _ (by decide +kernel) fun t hf y => ?_
  blk_simp
  rw [after0_7]
  unfold out0_7 k0_pay6
  frame_out
  pointwise
  rw [sum_block m c t y (((View.whole main_v6_2).slice (win0_7.rect t)).emb y)
    (by blk_simp [idx t]) (by blk_simp [idx t])]
  have hm : (iblk m c 2 t y : EReal) = Mn m c (((View.whole main_v6_2).slice (win0_7.rect t)).emb y) := by blk_point [iblk, idx t]
  rw [hm]
  rfl

/-- The kernel leaves the running mean of the gradient's square. -/
theorem arr8 (c : Dev nD) : (dats m 0 c).arrAt 8 (cfgs 0).N = fun i => Adam.square (Sq m c i) (G m c i) := by
  refine (dats m 0 c).arrAt_eq_of_covers 8 _ (by decide +kernel) fun t hf y => ?_
  blk_simp
  rw [after0_8]
  unfold out0_8 k0_pay7
  frame_out
  pointwise
  rw [sum_block m c t y (((View.whole main_v6_3).slice (win0_8.rect t)).emb y)
    (by blk_simp [idx t]) (by blk_simp [idx t])]
  have hv : (iblk m c 3 t y : EReal) = Sq m c (((View.whole main_v6_3).slice (win0_8.rect t)).emb y) := by blk_point [iblk, idx t]
  rw [hv]
  rfl

/-- Three slabs of rows, one below the other. -/
def stack (a b c : S1x128x1024.Idx → EReal) : S384x1024.Idx → EReal :=
  shapeCast S384x1024 (concatenate S3x128x1024 0 [⟨S1x128x1024, a⟩, ⟨S1x128x1024, b⟩, ⟨S1x128x1024, c⟩]
    concatenates_S1x128x1024_S1x128x1024_S1x128x1024_S3x128x1024_d0) shapeCasts_S3x128x1024_S384x1024

/-- The host lays the weights' rows one below the other. -/
theorem V_w (c : Dev nD) : Wt m c
    = stack (m ((c : Thread nD τ).loc main_arg2)) (m ((c : Thread nD τ).loc main_arg3)) (m ((c : Thread nD τ).loc main_arg4)) := by
  show (StableHlo.after hostOps0 (fun b => m (c, b)) (Proc.devRef .tc main_v1) : S384x1024.Idx → EReal) = _
  after_results
  rfl

/-- So it does with the gradients' running means. -/
theorem V_m (c : Dev nD) : Mn m c
    = stack (m ((c : Thread nD τ).loc main_arg5)) (m ((c : Thread nD τ).loc main_arg6)) (m ((c : Thread nD τ).loc main_arg7)) := by
  show (StableHlo.after hostOps0 (fun b => m (c, b)) (Proc.devRef .tc main_v3) : S384x1024.Idx → EReal) = _
  after_results
  rfl

/-- And with the running means of their squares. -/
theorem V_v (c : Dev nD) : Sq m c
    = stack (m ((c : Thread nD τ).loc main_arg8)) (m ((c : Thread nD τ).loc main_arg9)) (m ((c : Thread nD τ).loc main_arg10)) := by
  show (StableHlo.after hostOps0 (fun b => m (c, b)) (Proc.devRef .tc main_v5) : S384x1024.Idx → EReal) = _
  after_results
  rfl

/-- The rows of one of the three weights. -/
def part (k : Fin 3) (f : S384x1024.Idx → EReal) : S1x128x1024.Idx → EReal := fun i =>
  f (ix2 ⟨128 * k.val + (i 1).val, by have h : (i 1).val < 128 := (i 1).isLt; omega⟩ (i 2))

/-- The rows of the first slab of a stack. -/
theorem part_stack_0 (a b d : S1x128x1024.Idx → EReal) : part 0 (stack a b d) = a := by
  funext i
  have h1 : (i 1).val < 128 := (i 1).isLt
  have h0 : (i 0).val < 1 := (i 0).isLt
  unfold part stack
  pointwise
  refine (dif_pos (by omega)).trans (congrArg a ?_)
  blk_ext
  all_goals omega

/-- The rows of the second slab. -/
theorem part_stack_1 (a b d : S1x128x1024.Idx → EReal) : part 1 (stack a b d) = b := by
  funext i
  have h1 : (i 1).val < 128 := (i 1).isLt
  have h0 : (i 0).val < 1 := (i 0).isLt
  unfold part stack
  pointwise
  refine (dif_neg (by omega)).trans ((dif_pos (by omega)).trans (congrArg b ?_))
  blk_ext
  all_goals omega

/-- The rows of the third slab. -/
theorem part_stack_2 (a b d : S1x128x1024.Idx → EReal) : part 2 (stack a b d) = d := by
  funext i
  have h1 : (i 1).val < 128 := (i 1).isLt
  have h0 : (i 0).val < 1 := (i 0).isLt
  unfold part stack
  pointwise
  refine (dif_neg (by omega)).trans ((dif_neg (by omega)).trans (congrArg d ?_))
  blk_ext
  all_goals omega

/-- The lines after the kernel cut each of its four arrays into the rows of the three weights. -/
theorem cut (B : Valuation τ sig (Elt Ideal)) : (StableHlo.after hostOps1 B (Proc.devRef .tc main_v9) : S1x128x1024.Idx → EReal) = part 0 (B (Proc.devRef .tc main_v6_0))
    ∧ (StableHlo.after hostOps1 B (Proc.devRef .tc main_v11) : S1x128x1024.Idx → EReal) = part 1 (B (Proc.devRef .tc main_v6_0))
    ∧ (StableHlo.after hostOps1 B (Proc.devRef .tc main_v13) : S1x128x1024.Idx → EReal) = part 2 (B (Proc.devRef .tc main_v6_0))
    ∧ (StableHlo.after hostOps1 B (Proc.devRef .tc main_v16) : S1x128x1024.Idx → EReal) = part 0 (B (Proc.devRef .tc main_v6_1))
    ∧ (StableHlo.after hostOps1 B (Proc.devRef .tc main_v18) : S1x128x1024.Idx → EReal) = part 1 (B (Proc.devRef .tc main_v6_1))
    ∧ (StableHlo.after hostOps1 B (Proc.devRef .tc main_v20) : S1x128x1024.Idx → EReal) = part 2 (B (Proc.devRef .tc main_v6_1))
    ∧ (StableHlo.after hostOps1 B (Proc.devRef .tc main_v23) : S1x128x1024.Idx → EReal) = part 0 (B (Proc.devRef .tc main_v6_2))
    ∧ (StableHlo.after hostOps1 B (Proc.devRef .tc main_v25) : S1x128x1024.Idx → EReal) = part 1 (B (Proc.devRef .tc main_v6_2))
    ∧ (StableHlo.after hostOps1 B (Proc.devRef .tc main_v27) : S1x128x1024.Idx → EReal) = part 2 (B (Proc.devRef .tc main_v6_2))
    ∧ (StableHlo.after hostOps1 B (Proc.devRef .tc main_v30) : S1x128x1024.Idx → EReal) = part 0 (B (Proc.devRef .tc main_v6_3))
    ∧ (StableHlo.after hostOps1 B (Proc.devRef .tc main_v32) : S1x128x1024.Idx → EReal) = part 1 (B (Proc.devRef .tc main_v6_3))
    ∧ (StableHlo.after hostOps1 B (Proc.devRef .tc main_v34) : S1x128x1024.Idx → EReal) = part 2 (B (Proc.devRef .tc main_v6_3)) := by
  refine ⟨?_, ?_, ?_, ?_, ?_, ?_, ?_, ?_, ?_, ?_, ?_, ?_⟩ <;> after_results <;> funext i <;> unfold part <;> pointwise

/-- The lines after the kernel find each of its arrays as the kernel leaves it. -/
theorem left (c : Dev nD) (w : Fin (cfgs 0).W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr (cfgs 0).spec (by decide) c (V0 m c) _ w

/-- The run of the program: of each weight the gradient, then its change, then the two running means. -/
theorem run : θ_run defs (onTc (τ := τ) (main (F := Ideal))) ⟨m, fun _ => 0, ρ⟩ fun r => ∀ c : Dev nD,
    r.2.mem ((c : Thread nD τ).loc main_v9) = part 0 (G m c)
    ∧ r.2.mem ((c : Thread nD τ).loc main_v11) = part 1 (G m c)
    ∧ r.2.mem ((c : Thread nD τ).loc main_v13) = part 2 (G m c)
    ∧ r.2.mem ((c : Thread nD τ).loc main_v16) = (fun i => Adam.delta (part 0 (Wt m c) i) (part 0 (Mn m c) i) (part 0 (Sq m c) i) (part 0 (G m c) i))
    ∧ r.2.mem ((c : Thread nD τ).loc main_v18) = (fun i => Adam.delta (part 1 (Wt m c) i) (part 1 (Mn m c) i) (part 1 (Sq m c) i) (part 1 (G m c) i))
    ∧ r.2.mem ((c : Thread nD τ).loc main_v20) = (fun i => Adam.delta (part 2 (Wt m c) i) (part 2 (Mn m c) i) (part 2 (Sq m c) i) (part 2 (G m c) i))
    ∧ r.2.mem ((c : Thread nD τ).loc main_v23) = (fun i => Adam.mean (part 0 (Mn m c) i) (part 0 (G m c) i))
    ∧ r.2.mem ((c : Thread nD τ).loc main_v25) = (fun i => Adam.mean (part 1 (Mn m c) i) (part 1 (G m c) i))
    ∧ r.2.mem ((c : Thread nD τ).loc main_v27) = (fun i => Adam.mean (part 2 (Mn m c) i) (part 2 (G m c) i))
    ∧ r.2.mem ((c : Thread nD τ).loc main_v30) = (fun i => Adam.square (part 0 (Sq m c) i) (part 0 (G m c) i))
    ∧ r.2.mem ((c : Thread nD τ).loc main_v32) = (fun i => Adam.square (part 1 (Sq m c) i) (part 1 (G m c) i))
    ∧ r.2.mem ((c : Thread nD τ).loc main_v34) = (fun i => Adam.square (part 2 (Sq m c) i) (part 2 (G m c) i)) :=
  (θ_run defs _ _).mono (fun r h c => ⟨((h c).2 main_v9 (Pipeline.mem_restRefs_of main_v9 (by decide) (by decide))).trans ((cut _).1.trans (congrArg (part 0) ((left m c 5).trans (arr5 m c)))),
    ((h c).2 main_v11 (Pipeline.mem_restRefs_of main_v11 (by decide) (by decide))).trans ((cut _).2.1.trans (congrArg (part 1) ((left m c 5).trans (arr5 m c)))),
    ((h c).2 main_v13 (Pipeline.mem_restRefs_of main_v13 (by decide) (by decide))).trans ((cut _).2.2.1.trans (congrArg (part 2) ((left m c 5).trans (arr5 m c)))),
    ((h c).2 main_v16 (Pipeline.mem_restRefs_of main_v16 (by decide) (by decide))).trans ((cut _).2.2.2.1.trans (congrArg (part 0) ((left m c 6).trans (arr6 m c)))),
    ((h c).2 main_v18 (Pipeline.mem_restRefs_of main_v18 (by decide) (by decide))).trans ((cut _).2.2.2.2.1.trans (congrArg (part 1) ((left m c 6).trans (arr6 m c)))),
    ((h c).2 main_v20 (Pipeline.mem_restRefs_of main_v20 (by decide) (by decide))).trans ((cut _).2.2.2.2.2.1.trans (congrArg (part 2) ((left m c 6).trans (arr6 m c)))),
    ((h c).2 main_v23 (Pipeline.mem_restRefs_of main_v23 (by decide) (by decide))).trans ((cut _).2.2.2.2.2.2.1.trans (congrArg (part 0) ((left m c 7).trans (arr7 m c)))),
    ((h c).2 main_v25 (Pipeline.mem_restRefs_of main_v25 (by decide) (by decide))).trans ((cut _).2.2.2.2.2.2.2.1.trans (congrArg (part 1) ((left m c 7).trans (arr7 m c)))),
    ((h c).2 main_v27 (Pipeline.mem_restRefs_of main_v27 (by decide) (by decide))).trans ((cut _).2.2.2.2.2.2.2.2.1.trans (congrArg (part 2) ((left m c 7).trans (arr7 m c)))),
    ((h c).2 main_v30 (Pipeline.mem_restRefs_of main_v30 (by decide) (by decide))).trans ((cut _).2.2.2.2.2.2.2.2.2.1.trans (congrArg (part 0) ((left m c 8).trans (arr8 m c)))),
    ((h c).2 main_v32 (Pipeline.mem_restRefs_of main_v32 (by decide) (by decide))).trans ((cut _).2.2.2.2.2.2.2.2.2.2.1.trans (congrArg (part 1) ((left m c 8).trans (arr8 m c)))),
    ((h c).2 main_v34 (Pipeline.mem_restRefs_of main_v34 (by decide) (by decide))).trans ((cut _).2.2.2.2.2.2.2.2.2.2.2.trans (congrArg (part 2) ((left m c 8).trans (arr8 m c))))⟩) (run_main m ρ)

/-- The optimiser's step for these weights: kernel and reference end with the same gradients, changes and running means. -/
theorem algebraic : algebraic_Kernel9Ideal_Reference9Ideal (hKernel9Ideal := Kernel9Ideal.Gen.facts) (hReference9Ideal := Reference9Ideal.Gen.facts) := by
  intro m g m' g' _ hagree
  refine ⟨_, _, _, _, _, _, _, _, _, _, _, _, (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2, h.2 c⟩)
      (θ_run_and (run m g) (Kernel9Ideal.Gen.unchanged m g)),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩)
      (Reference9Ideal.Value.run m' g')⟩
  all_goals
    obtain ⟨h0, h1, h2, h3, h4, h5, h6, h7, h8, h9, h10⟩ := hagree c
    simp only [h0, h1, h2, h3, h4, h5, h6, h7, h8, h9, h10, V_w m c, V_m m c, V_v m c, part_stack_0, part_stack_1, part_stack_2]
    funext i
    unfold part G Adam.total
    try unfold Adam.delta
    try unfold Adam.mean
    try unfold Adam.square
    pointwise

end Cert.Kernel9Ideal.AdamProj
-- ==== Proof.AdamIn.lean ====
module

public import proofs.«01_k».proof.Proof.Gen.Kernel10Ideal.Frame
public import proofs.«01_k».proof.Defs
public import proofs.«01_k».proof.Proof.Gen.Reference10Ideal.Run
public import proofs.«01_k».proof.Proof.Adam
public import Idealize.ShloMosaic.Lib.Pointwise
public import Idealize.ShloMosaic.Lib.Pipeline.ValueKit

/-! # The optimiser's step for the projection at the layer's input -/

@[expose] public section

set_option maxRecDepth 16384

noncomputable section

namespace Cert.Kernel10Ideal.AdamIn

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The parts of the gradient that landed, one slot for each chip. -/
abbrev Land (c : Dev nD) : S4x1160x1024.Idx → EReal := m ((c : Thread nD τ).loc main_arg0)
/-- The chip's own parts. -/
abbrev Own (c : Dev nD) : S4x1160x1024.Idx → EReal := m ((c : Thread nD τ).loc main_arg1)
/-- The weight, turned round as the host hands it over. -/
abbrev Wt (c : Dev nD) : S1160x1024.Idx → EReal := V m c main_v1
/-- The running mean of its gradient. -/
abbrev Mn (c : Dev nD) : S1160x1024.Idx → EReal := V m c main_v3
/-- The running mean of its gradient's square. -/
abbrev Sq (c : Dev nD) : S1160x1024.Idx → EReal := V m c main_v5

/-- The blocks that each point works on. -/
theorem idx (t : Fin cfg0.N) : win0_0.index t = ![0, 0, t.val] ∧ win0_1.index t = ![0, t.val] ∧ win0_2.index t = ![0, t.val]
    ∧ win0_3.index t = ![0, t.val] ∧ win0_4.index t = ![0, 0, t.val] ∧ win0_5.index t = ![0, t.val] ∧ win0_6.index t = ![0, t.val]
    ∧ win0_7.index t = ![0, t.val] ∧ win0_8.index t = ![0, t.val] := by
  revert t; decide +kernel

/-- The summed gradient. -/
def G (c : Dev nD) : S1160x1024.Idx → EReal := fun i =>
  Adam.total (Own m c (ix3 0 (i 0) (i 1))) fun k : Fin 3 => Land m c (ix3 ⟨1 + k.val, by omega⟩ (i 0) (i 1))

/-- What the body adds up in a block. -/
theorem sum_apply (x0 : Vec Ideal S4x1160x256 .bf16) (x1 x2 x3 : Vec Ideal S1160x256 .f32) (x4 : Vec Ideal S1x1160x256 .bf16)
    (y : S1160x256.Idx) : (k0_pay3 (k0_pay7 x0 x1 x2 x3 x4) (k0_pay8 x0 x1 x2 x3 x4) : FVec Ideal S1160x256 .f32) y
      = Adam.total (x4 (ix3 0 (y 0) (y 1)) : EReal) fun k : Fin 3 => (x0 (ix3 ⟨1 + k.val, by omega⟩ (y 0) (y 1)) : EReal) := by
  unfold k0_pay3 k0_pay7 k0_pay8 k0_pay2 k0_pay1
  pointwise
  exact (Adam.total_three _ _ _ _).trans (congrArg (Adam.total _) (funext fun k => by fin_cases k <;> rfl))

/-- A block's sum of parts is the columns' gradient. -/
theorem sum_block (c : Dev nD) (t : Fin cfg0.N) (y : S1160x256.Idx) (i : S1160x1024.Idx) (h0 : (i 0).val = (y 0).val)
    (h1 : (i 1).val = t.val * 256 + (y 1).val) :
    (k0_pay3 (k0_pay7 (iblk m c 0 t) (iblk m c 1 t) (iblk m c 2 t) (iblk m c 3 t) (iblk m c 4 t))
      (k0_pay8 (iblk m c 0 t) (iblk m c 1 t) (iblk m c 2 t) (iblk m c 3 t) (iblk m c 4 t)) : FVec Ideal S1160x256 .f32) y = G m c i := by
  rw [sum_apply]
  unfold G
  have ho : (iblk m c 4 t (ix3 0 (y 0) (y 1)) : EReal) = Own m c (ix3 0 (i 0) (i 1)) := by
    blk_point [iblk, idx t]
  have hl (k : Fin 3) : (iblk m c 0 t (ix3 ⟨1 + k.val, by omega⟩ (y 0) (y 1)) : EReal) = Land m c (ix3 ⟨1 + k.val, by omega⟩ (i 0) (i 1)) := by
    blk_point [iblk, idx t]
  rw [ho]
  exact congrArg (Adam.total _) (funext hl)

/-- The kernel leaves the summed gradient. -/
theorem arr5 (c : Dev nD) : (dats m 0 c).arrAt 5 (cfgs 0).N = G m c := by
  refine (dats m 0 c).arrAt_eq_of_covers 5 _ (by decide +kernel) fun t hf y => ?_
  blk_simp
  rw [after0_5]
  unfold out0_5
  frame_out
  exact sum_block m c t y _ (by blk_simp [idx t]) (by blk_simp [idx t])

/-- The kernel leaves the weight's change. -/
theorem arr6 (c : Dev nD) : (dats m 0 c).arrAt 6 (cfgs 0).N = fun i => Adam.delta (Wt m c i) (Mn m c i) (Sq m c i) (G m c i) := by
  refine (dats m 0 c).arrAt_eq_of_covers 6 _ (by decide +kernel) fun t hf y => ?_
  blk_simp
  rw [after0_6]
  unfold out0_6 k0_pay6 k0_pay5 k0_pay4
  frame_out
  pointwise
  rw [sum_block m c t y (((View.whole main_v6_1).slice (win0_6.rect t)).emb y)
    (by blk_simp [idx t]) (by blk_simp [idx t])]
  have hw : (iblk m c 1 t y : EReal) = Wt m c (((View.whole main_v6_1).slice (win0_6.rect t)).emb y) := by blk_point [iblk, idx t]
  have hm : (iblk m c 2 t y : EReal) = Mn m c (((View.whole main_v6_1).slice (win0_6.rect t)).emb y) := by blk_point [iblk, idx t]
  have hv : (iblk m c 3 t y : EReal) = Sq m c (((View.whole main_v6_1).slice (win0_6.rect t)).emb y) := by blk_point [iblk, idx t]
  rw [hw, hm, hv]
  rfl

/-- The kernel leaves the running mean of the gradient. -/
theorem arr7 (c : Dev nD) : (dats m 0 c).arrAt 7 (cfgs 0).N = fun i => Adam.mean (Mn m c i) (G m c i) := by
  refine (dats m 0 c).arrAt_eq_of_covers 7 _ (by decide +kernel) fun t hf y => ?_
  blk_simp
  rw [after0_7]
  unfold out0_7 k0_pay4
  frame_out
  pointwise
  rw [sum_block m c t y (((View.whole main_v6_2).slice (win0_7.rect t)).emb y)
    (by blk_simp [idx t]) (by blk_simp [idx t])]
  have hm : (iblk m c 2 t y : EReal) = Mn m c (((View.whole main_v6_2).slice (win0_7.rect t)).emb y) := by blk_point [iblk, idx t]
  rw [hm]
  rfl

/-- The kernel leaves the running mean of the gradient's square. -/
theorem arr8 (c : Dev nD) : (dats m 0 c).arrAt 8 (cfgs 0).N = fun i => Adam.square (Sq m c i) (G m c i) := by
  refine (dats m 0 c).arrAt_eq_of_covers 8 _ (by decide +kernel) fun t hf y => ?_
  blk_simp
  rw [after0_8]
  unfold out0_8 k0_pay5
  frame_out
  pointwise
  rw [sum_block m c t y (((View.whole main_v6_3).slice (win0_8.rect t)).emb y)
    (by blk_simp [idx t]) (by blk_simp [idx t])]
  have hv : (iblk m c 3 t y : EReal) = Sq m c (((View.whole main_v6_3).slice (win0_8.rect t)).emb y) := by blk_point [iblk, idx t]
  rw [hv]
  rfl

/-- A weight's array turned round, as the host hands it over. -/
def turned (a : S1x1024x1160.Idx → EReal) : S1160x1024.Idx → EReal := fun i => a (ix3 0 (i 1) (i 0))

/-- The host turns the weight round. -/
theorem V_w (c : Dev nD) : Wt m c = turned (m ((c : Thread nD τ).loc main_arg2)) := by
  funext i
  show (StableHlo.after hostOps0 (fun b => m (c, b)) (Proc.devRef .tc main_v1) i : EReal) = _
  after_results
  pointwise
  rfl

/-- So it does with the gradient's running mean. -/
theorem V_m (c : Dev nD) : Mn m c = turned (m ((c : Thread nD τ).loc main_arg3)) := by
  funext i
  show (StableHlo.after hostOps0 (fun b => m (c, b)) (Proc.devRef .tc main_v3) i : EReal) = _
  after_results
  pointwise
  rfl

/-- And with the running mean of its square. -/
theorem V_v (c : Dev nD) : Sq m c = turned (m ((c : Thread nD τ).loc main_arg4)) := by
  funext i
  show (StableHlo.after hostOps0 (fun b => m (c, b)) (Proc.devRef .tc main_v5) i : EReal) = _
  after_results
  pointwise
  rfl

/-- An array turned back, as the results are laid out. -/
def back (f : S1160x1024.Idx → EReal) : S1x1024x1160.Idx → EReal := fun i => f (ix2 (i 2) (i 1))

/-- Turned round and back. -/
theorem back_turned (a : S1x1024x1160.Idx → EReal) : back (turned a) = a := by
  funext i
  unfold back turned
  refine congrArg a ?_
  blk_ext

/-- The lines after the kernel turn its four arrays back. -/
theorem cut (B : Valuation τ sig (Elt Ideal)) : (StableHlo.after hostOps1 B (Proc.devRef .tc main_v8) : S1x1024x1160.Idx → EReal) = back (B (Proc.devRef .tc main_v6_0))
    ∧ (StableHlo.after hostOps1 B (Proc.devRef .tc main_v10) : S1x1024x1160.Idx → EReal) = back (B (Proc.devRef .tc main_v6_1))
    ∧ (StableHlo.after hostOps1 B (Proc.devRef .tc main_v12) : S1x1024x1160.Idx → EReal) = back (B (Proc.devRef .tc main_v6_2))
    ∧ (StableHlo.after hostOps1 B (Proc.devRef .tc main_v14) : S1x1024x1160.Idx → EReal) = back (B (Proc.devRef .tc main_v6_3)) := by
  refine ⟨?_, ?_, ?_, ?_⟩ <;> after_results <;> funext i <;> unfold back <;> pointwise

/-- The lines after the kernel find each of its arrays as the kernel leaves it. -/
theorem left (c : Dev nD) (w : Fin (cfgs 0).W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr (cfgs 0).spec (by decide) c (V0 m c) _ w

/-- The run of the program: the gradient, the weight's change and the two running means. -/
theorem run : θ_run defs (onTc (τ := τ) (main (F := Ideal))) ⟨m, fun _ => 0, ρ⟩ fun r => ∀ c : Dev nD,
    r.2.mem ((c : Thread nD τ).loc main_v8) = back (G m c)
    ∧ r.2.mem ((c : Thread nD τ).loc main_v10) = (fun i => Adam.delta (back (Wt m c) i) (back (Mn m c) i) (back (Sq m c) i) (back (G m c) i))
    ∧ r.2.mem ((c : Thread nD τ).loc main_v12) = (fun i => Adam.mean (back (Mn m c) i) (back (G m c) i))
    ∧ r.2.mem ((c : Thread nD τ).loc main_v14) = (fun i => Adam.square (back (Sq m c) i) (back (G m c) i)) :=
  (θ_run defs _ _).mono (fun r h c => ⟨((h c).2 main_v8 (Pipeline.mem_restRefs_of main_v8 (by decide) (by decide))).trans ((cut _).1.trans (congrArg back ((left m c 5).trans (arr5 m c)))),
    ((h c).2 main_v10 (Pipeline.mem_restRefs_of main_v10 (by decide) (by decide))).trans ((cut _).2.1.trans (congrArg back ((left m c 6).trans (arr6 m c)))),
    ((h c).2 main_v12 (Pipeline.mem_restRefs_of main_v12 (by decide) (by decide))).trans ((cut _).2.2.1.trans (congrArg back ((left m c 7).trans (arr7 m c)))),
    ((h c).2 main_v14 (Pipeline.mem_restRefs_of main_v14 (by decide) (by decide))).trans ((cut _).2.2.2.trans (congrArg back ((left m c 8).trans (arr8 m c))))⟩) (run_main m ρ)

/-- The optimiser's step for this weight: kernel and reference end with the same gradient, change and running means. -/
theorem algebraic : algebraic_Kernel10Ideal_Reference10Ideal (hKernel10Ideal := Kernel10Ideal.Gen.facts) (hReference10Ideal := Reference10Ideal.Gen.facts) := by
  intro m g m' g' _ hagree
  refine ⟨_, _, _, _, (θ_run _ _ _).mono (fun r h c => ⟨(h.1 c).1, (h.1 c).2.1, (h.1 c).2.2.1, (h.1 c).2.2.2, h.2 c⟩)
      (θ_run_and (run m g) (Kernel10Ideal.Gen.unchanged m g)),
    (θ_run _ _ _).mono (fun r h c => ⟨(h c).1.trans ?_, (h c).2.1.trans ?_, (h c).2.2.1.trans ?_, (h c).2.2.2.1.trans ?_, (h c).2.2.2.2⟩)
      (Reference10Ideal.Value.run m' g')⟩
  all_goals
    obtain ⟨h0, h1, h2, h3, h4⟩ := hagree c
    simp only [h0, h1, h2, h3, h4, V_w m c, V_m m c, V_v m c, back_turned]
    funext i
    unfold back G Adam.total
    try unfold Adam.delta
    try unfold Adam.mean
    try unfold Adam.square
    pointwise

end Cert.Kernel10Ideal.AdamIn
-- ==== Proof.lean ====
/- The proof of everything that the statement claims of ten calls of the step: for each, that kernel and reference leave their
   arguments as they were and end with every semaphore at zero, and that the kernel over the extended reals ends with the
   reference's arrays. The values are proved in the modules of Proof/, one to three for each call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Products
public import proofs.«01_k».proof.Proof.Norm
public import proofs.«01_k».proof.Proof.DwProj
public import proofs.«01_k».proof.Proof.MidClaim
public import proofs.«01_k».proof.Proof.GateGdn
public import proofs.«01_k».proof.Proof.GateGla
public import proofs.«01_k».proof.Proof.AdamProj
public import proofs.«01_k».proof.Proof.AdamIn
public import Idealize.ShloMosaic.Adequacy
public import Idealize.ShloMosaic.Init

@[expose] public section

noncomputable section

namespace Cert.Proof

open Idealize.ShloMosaic Idealize.SL.Sem

/-- Everything that the statement claims. -/
theorem claim : Cert.Claim := ⟨Cert.Kernel.Gen.facts,
  Cert.KernelIdeal.Gen.facts, Cert.ReferenceIdeal.Gen.facts,
  Cert.Kernel2.Gen.facts,
  Cert.Kernel2Ideal.Gen.facts, Cert.Reference2Ideal.Gen.facts,
  Cert.Kernel3.Gen.facts,
  Cert.Kernel3Ideal.Gen.facts, Cert.Reference3Ideal.Gen.facts,
  Cert.Kernel4.Gen.facts,
  Cert.Kernel4Ideal.Gen.facts, Cert.Reference4Ideal.Gen.facts,
  Cert.Kernel5.Gen.facts,
  Cert.Kernel5Ideal.Gen.facts, Cert.Reference5Ideal.Gen.facts,
  Cert.Kernel6.Gen.facts,
  Cert.Kernel6Ideal.Gen.facts, Cert.Reference6Ideal.Gen.facts,
  Cert.Kernel7.Gen.facts,
  Cert.Kernel7Ideal.Gen.facts, Cert.Reference7Ideal.Gen.facts,
  Cert.Kernel8.Gen.facts,
  Cert.Kernel8Ideal.Gen.facts, Cert.Reference8Ideal.Gen.facts,
  Cert.Kernel9.Gen.facts,
  Cert.Kernel9Ideal.Gen.facts, Cert.Reference9Ideal.Gen.facts,
  Cert.Kernel10.Gen.facts,
  Cert.Kernel10Ideal.Gen.facts, Cert.Reference10Ideal.Gen.facts,
  Cert.Pre_finite7.Gen.facts, Cert.Pre_finite8.Gen.facts,
  fun m ρ _ => Cert.Kernel.Gen.frame m ρ,
  fun m ρ _ => Cert.KernelIdeal.Gen.frame m ρ, (fun m ρ _ =>
    (θ_run _ _ _).mono (fun r h => ⟨fun c => (h c).2.2.2.2.2.2.2.2.2.2.2, sem_eq_zero_of_no_sems (by decide) r.2⟩) (Cert.ReferenceIdeal.Value.run m ρ)),
  fun m ρ _ => Cert.Kernel2.Gen.frame m ρ,
  fun m ρ _ => Cert.Kernel2Ideal.Gen.frame m ρ, (fun m ρ _ =>
    (θ_run _ _ _).mono (fun r h => ⟨fun c => (h c).2.2.2, sem_eq_zero_of_no_sems (by decide) r.2⟩) (Cert.Reference2Ideal.Value.run m ρ)),
  fun m ρ _ => Cert.Kernel3.Gen.frame m ρ,
  fun m ρ _ => Cert.Kernel3Ideal.Gen.frame m ρ, (fun m ρ _ =>
    (θ_run _ _ _).mono (fun r h => ⟨fun c => (h c).2, sem_eq_zero_of_no_sems (by decide) r.2⟩) (Cert.Reference3Ideal.Value.run m ρ)),
  fun m ρ _ => Cert.Kernel4.Gen.frame m ρ,
  fun m ρ _ => Cert.Kernel4Ideal.Gen.frame m ρ, (fun m ρ _ =>
    (θ_run _ _ _).mono (fun r h => ⟨fun c => (h c).2, sem_eq_zero_of_no_sems (by decide) r.2⟩) (Cert.Reference4Ideal.Value.run m ρ)),
  fun m ρ _ => Cert.Kernel5.Gen.frame m ρ,
  fun m ρ _ => Cert.Kernel5Ideal.Gen.frame m ρ, (fun m ρ _ =>
    (θ_run _ _ _).mono (fun r h => ⟨fun c => (h c).2.2, sem_eq_zero_of_no_sems (by decide) r.2⟩) (Cert.Reference5Ideal.Value.run m ρ)),
  fun m ρ _ => Cert.Kernel6.Gen.frame m ρ,
  fun m ρ _ => Cert.Kernel6Ideal.Gen.frame m ρ, (fun m ρ _ =>
    (θ_run _ _ _).mono (fun r h => ⟨fun c => (h c).2, sem_eq_zero_of_no_sems (by decide) r.2⟩) (Cert.Reference6Ideal.Value.run m ρ)),
  fun m ρ _ => Cert.Kernel7.Gen.frame m ρ,
  fun m ρ _ => Cert.Kernel7Ideal.Gen.frame m ρ, fun m ρ _ => Cert.Kernel7Ideal.Gen.frame m ρ, (fun m ρ _ =>
    (θ_run _ _ _).mono (fun r h => ⟨fun c => (h c).2.2.2, sem_eq_zero_of_no_sems (by decide) r.2⟩) (Cert.Reference7Ideal.Value.run m ρ)), (fun m ρ _ =>
    (θ_run _ _ _).mono (fun r h => ⟨fun c => (h c).2.2.2, sem_eq_zero_of_no_sems (by decide) r.2⟩) (Cert.Reference7Ideal.Value.run m ρ)),
  fun m ρ _ => Cert.Kernel8.Gen.frame m ρ,
  fun m ρ _ => Cert.Kernel8Ideal.Gen.frame m ρ, fun m ρ _ => Cert.Kernel8Ideal.Gen.frame m ρ, (fun m ρ _ =>
    (θ_run _ _ _).mono (fun r h => ⟨fun c => (h c).2.2.2, sem_eq_zero_of_no_sems (by decide) r.2⟩) (Cert.Reference8Ideal.Value.run m ρ)), (fun m ρ _ =>
    (θ_run _ _ _).mono (fun r h => ⟨fun c => (h c).2.2.2, sem_eq_zero_of_no_sems (by decide) r.2⟩) (Cert.Reference8Ideal.Value.run m ρ)),
  fun m ρ _ => Cert.Kernel9.Gen.frame m ρ,
  fun m ρ _ => Cert.Kernel9Ideal.Gen.frame m ρ, (fun m ρ _ =>
    (θ_run _ _ _).mono (fun r h => ⟨fun c => (h c).2.2.2.2.2.2.2.2.2.2.2.2, sem_eq_zero_of_no_sems (by decide) r.2⟩) (Cert.Reference9Ideal.Value.run m ρ)),
  fun m ρ _ => Cert.Kernel10.Gen.frame m ρ,
  fun m ρ _ => Cert.Kernel10Ideal.Gen.frame m ρ, (fun m ρ _ =>
    (θ_run _ _ _).mono (fun r h => ⟨fun c => (h c).2.2.2.2, sem_eq_zero_of_no_sems (by decide) r.2⟩) (Cert.Reference10Ideal.Value.run m ρ)),
  trivial, Cert.KernelIdeal.Mid.algebraic, trivial, Cert.Kernel2Ideal.DwProj.algebraic, trivial, Cert.Products.dw, trivial, Cert.Products.dh, trivial, Cert.Kernel5Ideal.Norm.algebraic, trivial, Cert.Products.proj,
  trivial, Cert.Kernel7Ideal.Gated.algebraic, trivial, Cert.Kernel8Ideal.Gated.algebraic,
  trivial, Cert.Kernel9Ideal.AdamProj.algebraic, trivial, Cert.Kernel10Ideal.AdamIn.algebraic⟩

end Cert.Proof

end
